-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v28_1) = v2 c
          ∧ r.2.mem ((c.tc : Thread Cert.ReferenceIdeal.nD Cert.ReferenceIdeal.τ).loc Cert.ReferenceIdeal.main_v28_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x7168 : Shape := ⟨3, ![4, 384, 7168]⟩
abbrev S3584x18432 : Shape := ⟨2, ![3584, 18432]⟩
abbrev S56x18432 : Shape := ⟨2, ![56, 18432]⟩
abbrev S1536x7168 : Shape := ⟨2, ![1536, 7168]⟩
abbrev S1536x3584 : Shape := ⟨2, ![1536, 3584]⟩
abbrev S1536x56 : Shape := ⟨2, ![1536, 56]⟩
abbrev S128x7168 : Shape := ⟨2, ![128, 7168]⟩
abbrev S128x3584 : Shape := ⟨2, ![128, 3584]⟩
abbrev S128x56 : Shape := ⟨2, ![128, 56]⟩
abbrev S128x128 : Shape := ⟨2, ![128, 128]⟩
abbrev S128 : Shape := ⟨1, ![128]⟩
abbrev S128x1 : Shape := ⟨2, ![128, 1]⟩
abbrev S1536x18432 : Shape := ⟨2, ![1536, 18432]⟩
abbrev S3584x256 : Shape := ⟨2, ![3584, 256]⟩
abbrev S56x256 : Shape := ⟨2, ![56, 256]⟩
abbrev S1536x256 : Shape := ⟨2, ![1536, 256]⟩
abbrev S7168x256 : Shape := ⟨2, ![7168, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S4x384x18432 : Shape := ⟨3, ![4, 384, 18432]⟩
abbrev S4x384x3584 : Shape := ⟨3, ![4, 384, 3584]⟩
abbrev S4x384x56 : Shape := ⟨3, ![4, 384, 56]⟩

abbrev nBuf : Space → Nat
  | .hbm => 14
  | .vmem => 20
  | .smem => 0
  | _ => 0

abbrev bufTy : (tb : Table) → Fin (tcTables nBuf tb) → BufTy
  | .hbm, ⟨0, _⟩ => ⟨S4x384x7168, .bf16⟩
  | .hbm, ⟨1, _⟩ => ⟨S3584x18432, .i8⟩
  | .hbm, ⟨2, _⟩ => ⟨S56x18432, .f32⟩
  | .hbm, ⟨3, _⟩ => ⟨S56x18432, .i8⟩
  | .hbm, ⟨4, _⟩ => ⟨S1536x7168, .bf16⟩
  | .hbm, ⟨5, _⟩ => ⟨S1536x7168, .bf16⟩
  | .hbm, ⟨6, _⟩ => ⟨S1536x3584, .i8⟩
  | .hbm, ⟨7, _⟩ => ⟨S1536x56, .f32⟩
  | .hbm, ⟨8, _⟩ => ⟨S1536x56, .i8⟩
  | .hbm, ⟨9, _⟩ => ⟨S1536x18432, .bf16⟩
  | .hbm, ⟨10, _⟩ => ⟨S4x384x18432, .bf16⟩
  | .hbm, ⟨11, _⟩ => ⟨S4x384x3584, .i8⟩
  | .hbm, ⟨12, _⟩ => ⟨S4x384x56, .f32⟩
  | .hbm, ⟨13, _⟩ => ⟨S4x384x56, .i8⟩
  | .local _ .vmem, ⟨0, _⟩ => ⟨S128x7168, .bf16⟩
  | .local _ .vmem, ⟨1, _⟩ => ⟨S128x7168, .bf16⟩
  | .local _ .vmem, ⟨2, _⟩ => ⟨S128x7168, .bf16⟩
  | .local _ .vmem, ⟨3, _⟩ => ⟨S128x7168, .bf16⟩
  | .local _ .vmem, ⟨4, _⟩ => ⟨S128x3584, .i8⟩
  | .local _ .vmem, ⟨5, _⟩ => ⟨S128x3584, .i8⟩
  | .local _ .vmem, ⟨6, _⟩ => ⟨S128x56, .f32⟩
  | .local _ .vmem, ⟨7, _⟩ => ⟨S128x56, .f32⟩
  | .local _ .vmem, ⟨8, _⟩ => ⟨S128x56, .i8⟩
  | .local _ .vmem, ⟨9, _⟩ => ⟨S128x56, .i8⟩
  | .local _ .vmem, ⟨10, _⟩ => ⟨S1536x7168, .bf16⟩
  | .local _ .vmem, ⟨11, _⟩ => ⟨S3584x256, .i8⟩
  | .local _ .vmem, ⟨12, _⟩ => ⟨S3584x256, .i8⟩
  | .local _ .vmem, ⟨13, _⟩ => ⟨S56x256, .f32⟩
  | .local _ .vmem, ⟨14, _⟩ => ⟨S56x256, .f32⟩
  | .local _ .vmem, ⟨15, _⟩ => ⟨S56x256, .i8⟩
  | .local _ .vmem, ⟨16, _⟩ => ⟨S56x256, .i8⟩
  | .local _ .vmem, ⟨17, _⟩ => ⟨S1536x256, .bf16⟩
  | .local _ .vmem, ⟨18, _⟩ => ⟨S1536x256, .bf16⟩
  | .local _ .vmem, ⟨19, _⟩ => ⟨S7168x256, .bf16⟩
  | _, _ => ⟨S4x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x56 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x7168 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3584x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S56x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S56x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1536x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4x384x7168 : Shape := ⟨3, ![4, 384, 7168]⟩
abbrev S3584x18432 : Shape := ⟨2, ![3584, 18432]⟩
abbrev S56x18432 : Shape := ⟨2, ![56, 18432]⟩
abbrev S4x384x56x128 : Shape := ⟨4, ![4, 384, 56, 128]⟩
abbrev S_ : Shape := ⟨0, ![]⟩
abbrev S4x384x56 : Shape := ⟨3, ![4, 384, 56]⟩
abbrev S4x384x56x1 : Shape := ⟨4, ![4, 384, 56, 1]⟩
abbrev S4x384x3584 : Shape := ⟨3, ![4, 384, 3584]⟩
abbrev S1536x3584x2 : Shape := ⟨3, ![1536, 3584, 2]⟩
abbrev S2x1536x3584 : Shape := ⟨3, ![2, 1536, 3584]⟩
abbrev S2x1x1x1 : Shape := ⟨4, ![2, 1, 1, 1]⟩
abbrev S56x64x18432 : Shape := ⟨3, ![56, 64, 18432]⟩
abbrev S1x56x64x18432 : Shape := ⟨4, ![1, 56, 64, 18432]⟩
abbrev S2x56x64x18432 : Shape := ⟨4, ![2, 56, 64, 18432]⟩
abbrev S1x56x1x18432 : Shape := ⟨4, ![1, 56, 1, 18432]⟩
abbrev S2x3584x18432 : Shape := ⟨3, ![2, 3584, 18432]⟩
abbrev S1536x18432 : Shape := ⟨2, ![1536, 18432]⟩
abbrev S4x384x18432 : Shape := ⟨3, ![4, 384, 18432]⟩

abbrev nBuf : Space → Nat
  | .hbm => 98
  | .vmem => 0
  | .smem => 0
  | _ => 0

abbrev bufTy : (tb : Table) → Fin (tcTables nBuf tb) → BufTy
  | .hbm, ⟨0, _⟩ => ⟨S4x384x7168, .bf16⟩
  | .hbm, ⟨1, _⟩ => ⟨S3584x18432, .i8⟩
  | .hbm, ⟨2, _⟩ => ⟨S56x18432, .f32⟩
  | .hbm, ⟨3, _⟩ => ⟨S56x18432, .i8⟩
  | .hbm, ⟨4, _⟩ => ⟨S4x384x7168, .f32⟩
  | .hbm, ⟨5, _⟩ => ⟨S4x384x56x128, .f32⟩
  | .hbm, ⟨6, _⟩ => ⟨S_, .f32⟩
  | .hbm, ⟨7, _⟩ => ⟨S4x384x56, .f32⟩
  | .hbm, ⟨8, _⟩ => ⟨S_, .f32⟩
  | .hbm, ⟨9, _⟩ => ⟨S4x384x56, .f32⟩
  | .hbm, ⟨10, _⟩ => ⟨S4x384x56, .f32⟩
  | .hbm, ⟨11, _⟩ => ⟨S_, .f32⟩
  | .hbm, ⟨12, _⟩ => ⟨S4x384x56, .f32⟩
  | .hbm, ⟨13, _⟩ => ⟨S_, .f32⟩
  | .hbm, ⟨14, _⟩ => ⟨S4x384x56, .f32⟩
  | .hbm, ⟨15, _⟩ => ⟨S4x384x56, .f32⟩
  | .hbm, ⟨16, _⟩ => ⟨S4x384x56, .i1⟩
  | .hbm, ⟨17, _⟩ => ⟨S4x384x56, .f32⟩
  | .hbm, ⟨18, _⟩ => ⟨S_, .f32⟩
  | .hbm, ⟨19, _⟩ => ⟨S4x384x56, .f32⟩
  | .hbm, ⟨20, _⟩ => ⟨S4x384x56, .f32⟩
  | .hbm, ⟨21, _⟩ => ⟨S_, .f32⟩
  | .hbm, ⟨22, _⟩ => ⟨S_, .f32⟩
  | .hbm, ⟨23, _⟩ => ⟨S4x384x56, .f32⟩
  | .hbm, ⟨24, _⟩ => ⟨S4x384x56, .f32⟩
  | .hbm, ⟨25, _⟩ => ⟨S4x384x56, .f32⟩
  | .hbm, ⟨26, _⟩ => ⟨S4x384x56, .f32⟩
  | .hbm, ⟨27, _⟩ => ⟨S4x384x56, .f32⟩
  | .hbm, ⟨28, _⟩ => ⟨S4x384x56x1, .f32⟩
  | .hbm, ⟨29, _⟩ => ⟨S4x384x56x128, .f32⟩
  | .hbm, ⟨30, _⟩ => ⟨S4x384x56x128, .f32⟩
  | .hbm, ⟨31, _⟩ => ⟨S4x384x56x128, .f32⟩
  | .hbm, ⟨32, _⟩ => ⟨S4x384x56x1, .f32⟩
  | .hbm, ⟨33, _⟩ => ⟨S4x384x56x128, .f32⟩
  | .hbm, ⟨34, _⟩ => ⟨S4x384x56x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x384x56x128, .f32⟩
  | .hbm, ⟨39, _⟩ => ⟨S4x384x56x128, .f32⟩
  | .hbm, ⟨40, _⟩ => ⟨S_, .f32⟩
  | .hbm, ⟨41, _⟩ => ⟨S4x384x56x128, .f32⟩
  | .hbm, ⟨42, _⟩ => ⟨S4x384x56x128, .f32⟩
  | .hbm, ⟨43, _⟩ => ⟨S4x384x56x128, .i32⟩
  | .hbm, ⟨44, _⟩ => ⟨S4x384x56x128, .i8⟩
  | .hbm, ⟨45, _⟩ => ⟨S4x384x56, .i32⟩
  | .hbm, ⟨46, _⟩ => ⟨S4x384x56, .i8⟩
  | .hbm, ⟨47, _⟩ => ⟨S4x384x56x128, .i8⟩
  | .hbm, ⟨48, _⟩ => ⟨S4x384x56, .f32⟩
  | .hbm, ⟨49, _⟩ => ⟨S4x384x56, .i8⟩
  | .hbm, ⟨50, _⟩ => ⟨S4x384x7168, .i8⟩
  | .hbm, ⟨51, _⟩ => ⟨S4x384x7168, .i32⟩
  | .hbm, ⟨52, _⟩ => ⟨S4x384x3584, .i32⟩
  | .hbm, ⟨53, _⟩ => ⟨S4x384x3584, .i32⟩
  | .hbm, ⟨54, _⟩ => ⟨S_, .i32⟩
  | .hbm, ⟨55, _⟩ => ⟨S4x384x3584, .i32⟩
  | .hbm, ⟨56, _⟩ => ⟨S4x384x3584, .i32⟩
  | .hbm, ⟨57, _⟩ => ⟨S4x384x3584, .i32⟩
  | .hbm, ⟨58, _⟩ => ⟨S4x384x3584, .i8⟩
  | .hbm, ⟨59, _⟩ => ⟨S4x384x56x128, .i32⟩
  | .hbm, ⟨60, _⟩ => ⟨S4x384x56, .i32⟩
  | .hbm, ⟨61, _⟩ => ⟨S4x384x56x1, .i32⟩
  | .hbm, ⟨62, _⟩ => ⟨S4x384x56x128, .i32⟩
  | .hbm, ⟨63, _⟩ => ⟨S4x384x56x128, .i32⟩
  | .hbm, ⟨64, _⟩ => ⟨S4x384x56x128, .bf16⟩
  | .hbm, ⟨65, _⟩ => ⟨S4x384x56, .bf16⟩
  | .hbm, ⟨66, _⟩ => ⟨S4x384x56x1, .bf16⟩
  | .hbm, ⟨67, _⟩ => ⟨S4x384x56x128, .bf16⟩
  | .hbm, ⟨68, _⟩ => ⟨S4x384x56x128, .bf16⟩
  | .hbm, ⟨69, _⟩ => ⟨S1536x3584x2, .bf16⟩
  | .hbm, ⟨70, _⟩ => ⟨S2x1536x3584, .bf16⟩
  | .hbm, ⟨71, _⟩ => ⟨S2x1x1x1, .i32⟩
  | .hbm, ⟨72, _⟩ => ⟨S_, .i32⟩
  | .hbm, ⟨73, _⟩ => ⟨S2x1x1x1, .i32⟩
  | .hbm, ⟨74, _⟩ => ⟨S2x1x1x1, .i32⟩
  | .hbm, ⟨75, _⟩ => ⟨S3584x18432, .i32⟩
  | .hbm, ⟨76, _⟩ => ⟨S56x64x18432, .i32⟩
  | .hbm, ⟨77, _⟩ => ⟨S1x56x64x18432, .i32⟩
  | .hbm, ⟨78, _⟩ => ⟨S2x56x64x18432, .i32⟩
  | .hbm, ⟨79, _⟩ => ⟨S2x56x64x18432, .i32⟩
  | .hbm, ⟨80, _⟩ => ⟨S2x56x64x18432, .i32⟩
  | .hbm, ⟨81, _⟩ => ⟨S_, .i32⟩
  | .hbm, ⟨82, _⟩ => ⟨S2x56x64x18432, .i32⟩
  | .hbm, ⟨83, _⟩ => ⟨S2x56x64x18432, .i32⟩
  | .hbm, ⟨84, _⟩ => ⟨S2x56x64x18432, .bf16⟩
  | .hbm, ⟨85, _⟩ => ⟨S56x18432, .i32⟩
  | .hbm, ⟨86, _⟩ => ⟨S56x18432, .bf16⟩
  | .hbm, ⟨87, _⟩ => ⟨S1x56x1x18432, .bf16⟩
  | .hbm, ⟨88, _⟩ => ⟨S56x18432, .bf16⟩
  | .hbm, ⟨89, _⟩ => ⟨S1x56x1x18432, .bf16⟩
  | .hbm, ⟨90, _⟩ => ⟨S2x56x64x18432, .bf16⟩
  | .hbm, ⟨91, _⟩ => ⟨S2x56x64x18432, .bf16⟩
  | .hbm, ⟨92, _⟩ => ⟨S2x56x64x18432, .bf16⟩
  | .hbm, ⟨93, _⟩ => ⟨S2x56x64x18432, .bf16⟩
  | .hbm, ⟨94, _⟩ => ⟨S2x3584x18432, .bf16⟩
  | .hbm, ⟨95, _⟩ => ⟨S1536x18432, .f32⟩
  | .hbm, ⟨96, _⟩ => ⟨S1536x18432, .bf16⟩
  | .hbm, ⟨97, _⟩ => ⟨S4x384x18432, .bf16⟩
  | _, _ => ⟨S4x384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Proof.ReferenceFrame.lean ====
/- The reference is host operations only: its arguments end as launched, and it has no semaphore to leave raised. -/
module

public import proofs.«01_k».proof.Proof.Gen.ReferenceIdeal.Run
public import Idealize.ShloMosaic.PureOps.Ideal

@[expose] public section
noncomputable section
namespace Cert.ReferenceIdeal.Value
open Cert.ReferenceIdeal Cert.ReferenceIdeal.Gen Idealize.ShloMosaic Idealize.ShloMosaic.TcCoe Idealize.SL.Sem

/-- The program declares no semaphore of either kind. -/
theorem no_sem (s : SemLoc sig) : False := by
  rcases s with s | s
  · exact s.elim0
  · exact s.elim0

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2.2, funext fun g => (no_sem g.2).elim⟩) (run m ρ)

end Cert.ReferenceIdeal.Value
end
-- ==== Proof.KernelRun.lean ====
/- The run of the two kernel calls, read at the four result buffers: after it each result buffer holds what
   the buffer contents folded through the program say, and the arguments are unchanged. -/
module

public import proofs.«01_k».proof.Proof.Gen.KernelIdeal.Frame

@[expose] public section
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer outside the kernels at the folded contents; read here at the
    results and the arguments. -/
theorem run_values : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)), h c _ (mem_uc main_v4 (by decide)),
       h c _ (mem_uc main_v5 (by decide)), h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Gen
end
-- ==== Proof.QuantBlocks.lean ====
/- The quantising call's four output blocks, written uniformly over the 56 groups of 128 columns.
   The generated `out0_1 … out0_4` spell the groups' stores out one by one; each store is the same
   function of its group's 128 columns, and the statements here say so. -/
module

public import proofs.«01_k».proof.Proof.Gen.KernelIdeal.Frame

@[expose] public section
noncomputable section
namespace Cert.KernelIdeal.Gen
open Idealize.ShloMosaic Idealize.ShloMosaic.TcCoe
open Idealize.SL.Sem

variable {F : FTy → Type} [FloatOps F]

/-- Group `g`'s 128 columns of a block of 7168. -/
def colsG (g : Fin 56) : Rect S128x7168 :=
  Rect.unit (s := S128x7168) ![0, 128 * g.val] S128x128.size
    (fun a => by fin_cases a <;> simp [Shape.size] <;> omega)

/-- The packed codes' columns written by groups `2h` and `2h + 1`. -/
def colsH (h : Fin 28) : Rect S128x3584 :=
  Rect.unit (s := S128x3584) ![0, 128 * h.val] S128x128.size
    (fun a => by fin_cases a <;> simp [Shape.size] <;> omega)

/-- Group `g` of a block. -/
def grpBlk (x0 : Vec F S128x7168 .bf16) (g : Fin 56) : Vec F S128x128 .bf16 := View.ld x0 (colsG g)

/-- One group's column put into a block of 56 columns: column `g` is `v`, the others stay. -/
def putCol (g : Fin 56) (v : FVec F S128x1 .f32) (acc : FVec F S128x56 .f32) : FVec F S128x56 .f32 :=
  select (cmpi .eq (iota .tc S128x56 32 [1] iota_S128x56_d1_w32) (broadcast S128x56 (BitVec.ofNat 32 g.val)))
    (broadcastTo S128x56 (shapeCast S128x1 v shapeCasts_S128x1_S128x1) broadcasts_S128x1_S128x56) acc

set_option maxRecDepth 20000 in
/-- The dequantised activations: one store per group. -/
theorem out0_1_eq (x0 : Vec F S128x7168 .bf16) :
    out0_1 x0 = View.canon ((List.finRange 56).reverse.map fun g =>
      ⟨colsG g, k0_pay10 (grpBlk x0 g)⟩) := rfl

set_option maxRecDepth 20000 in
/-- The packed codes: one store per pair of groups. -/
theorem out0_2_eq (x0 : Vec F S128x7168 .bf16) :
    out0_2 x0 = View.canon ((List.finRange 28).reverse.map fun h =>
      ⟨colsH h, k0_pay21 (k0_pay11 k0_pay1 (grpBlk x0 ⟨2 * h.val, by omega⟩))
        (k0_pay20 k0_pay2 (grpBlk x0 ⟨2 * h.val + 1, by omega⟩))⟩) := rfl

set_option maxRecDepth 20000 in
/-- The scales: one store of a block the groups' columns are put into one after another. -/
theorem out0_3_eq (x0 : Vec F S128x7168 .bf16) :
    out0_3 x0 = View.canon [⟨r0_84, (List.finRange 56).foldl
      (fun acc g => putCol g (k0_pay7 (grpBlk x0 g)) acc) k0_pay3⟩] := rfl

set_option maxRecDepth 20000 in
/-- The zero points, likewise, converted to bytes at the end. -/
theorem out0_4_eq (x0 : Vec F S128x7168 .bf16) :
    out0_4 x0 = View.canon [⟨r0_84, trunci 8 (fptosi 32 ((List.finRange 56).foldl
      (fun acc g => putCol g (k0_pay8 (grpBlk x0 g)) acc) k0_pay4)) natLt_8_32⟩] := rfl

end Cert.KernelIdeal.Gen
end
-- ==== Proof.Scalars.lean ====
/- The 4-bit quantiser of one group of 128 numbers, over the extended reals, and the facts about it
   that do not depend on any program: the zero point and every code are whole numbers from 0 to 15,
   whatever the group holds (infinities included), and what bytes such numbers become. -/
module

public import Idealize.ShloMosaic.Lib.Pointwise

@[expose] public section
noncomputable section
namespace Cert.Quant
open Idealize.ShloMosaic

/-- The smallest element of the group, or zero if that is less. -/
def lo (f : Fin 128 → EReal) : EReal := min (Finset.univ.fold min ⊤ f) 0
/-- The largest element of the group, or zero if that is more. -/
def hi (f : Fin 128 → EReal) : EReal := max (Finset.univ.fold max ⊥ f) 0
/-- The group's scale. -/
def sc (f : Fin 128 → EReal) : EReal :=
  if hi f = lo f then 1 else Ideal.div (hi f - lo f) ((15 : ℝ) : EReal)
/-- The group's zero point. -/
def zp (f : Fin 128 → EReal) : EReal := Ideal.liftRound Ideal.roundHalfEven (Ideal.div (-lo f) (sc f))
/-- The code of element `k`. -/
def cd (f : Fin 128 → EReal) (k : Fin 128) : EReal :=
  min ((15 : ℝ) : EReal) (max 0 (Ideal.liftRound Ideal.roundHalfEven (Ideal.div (f k) (sc f)) + zp f))
/-- Element `k` quantised and scaled back. -/
def deq (f : Fin 128 → EReal) (k : Fin 128) : EReal := (cd f k - zp f) * sc f

theorem lo_nonpos (f : Fin 128 → EReal) : lo f ≤ 0 := min_le_right _ _
theorem hi_nonneg (f : Fin 128 → EReal) : 0 ≤ hi f := le_max_right _ _

/-- Rounding to the nearest whole number stays within whole bounds. -/
theorem roundHalfEven_mem {r : ℝ} (h0 : 0 ≤ r) (h1 : r ≤ 15) :
    0 ≤ Ideal.roundHalfEven r ∧ Ideal.roundHalfEven r ≤ 15 := by
  have hf0 : 0 ≤ ⌊r⌋ := Int.floor_nonneg.2 h0
  have hf1 : ⌊r⌋ ≤ 15 := by
    have : (⌊r⌋ : ℝ) ≤ 15 := (Int.floor_le r).trans h1
    exact_mod_cast this
  have hlt : 0 < r - ⌊r⌋ → ⌊r⌋ + 1 ≤ 15 := fun h => by
    have : (⌊r⌋ : ℝ) < 15 := by linarith
    have : ⌊r⌋ < 15 := by exact_mod_cast this
    omega
  unfold Ideal.roundHalfEven
  dsimp only
  split_ifs with h2 h3 h4
  · exact ⟨hf0, hf1⟩
  · exact ⟨by omega, hlt (by linarith)⟩
  · exact ⟨hf0, hf1⟩
  · exact ⟨by omega, hlt (by linarith)⟩

theorem div_fifteen (x : EReal) : Ideal.div x ((15 : ℝ) : EReal) = x * (((15 : ℝ)⁻¹ : ℝ) : EReal) := by
  rw [Ideal.div, if_neg (by norm_num), EReal.coe_inv]

/-- The zero point is a whole number from 0 to 15. -/
theorem zp_nat (f : Fin 128 → EReal) : ∃ n : ℕ, n ≤ 15 ∧ zp f = ((n : ℝ) : EReal) := by
  have hlo := lo_nonpos f
  have hhi := hi_nonneg f
  unfold zp sc
  generalize lo f = l at *
  generalize hi f = h at *
  have key : ∀ r : ℝ, 0 ≤ r → r ≤ 15 →
      ∃ n : ℕ, n ≤ 15 ∧ Ideal.liftRound Ideal.roundHalfEven (r : EReal) = ((n : ℝ) : EReal) := fun r h0 h1 => by
    obtain ⟨a, b⟩ := roundHalfEven_mem h0 h1
    refine ⟨(Ideal.roundHalfEven r).toNat, by omega, ?_⟩
    rw [Ideal.liftRound_coe]
    congr 1
    have : ((Ideal.roundHalfEven r).toNat : ℤ) = Ideal.roundHalfEven r := Int.toNat_of_nonneg a
    exact_mod_cast this.symm
  have top : ∀ x : EReal, ∃ n : ℕ, n ≤ 15 ∧
      Ideal.liftRound Ideal.roundHalfEven (Ideal.div x ⊤) = ((n : ℝ) : EReal) := fun x => by
    have : Ideal.div x ⊤ = ((0 : ℝ) : EReal) := by simp [Ideal.div]
    rw [this]; exact key 0 le_rfl (by norm_num)
  have topmul : (⊤ : EReal) * (((15 : ℝ)⁻¹ : ℝ) : EReal) = ⊤ := EReal.top_mul_coe_of_pos (by norm_num)
  by_cases e : h = l
  · have h0 : l = 0 := le_antisymm hlo (e ▸ hhi)
    rw [if_pos e, h0]
    have : Ideal.div (-0) 1 = ((0 : ℝ) : EReal) := by simp [Ideal.div]
    rw [this]; exact key 0 le_rfl (by norm_num)
  rw [if_neg e, div_fifteen]
  induction l using EReal.rec with
  | top => simp at hlo
  | bot =>
    have : h - ⊥ = ⊤ := by
      induction h using EReal.rec with
      | bot => simp at hhi
      | top => rfl
      | coe r => rfl
    rw [this, topmul]; exact top _
  | coe l =>
    induction h using EReal.rec with
    | bot => simp at hhi
    | top => rw [show (⊤ : EReal) - (l : EReal) = ⊤ from rfl, topmul]; exact top _
    | coe h =>
      have hl : l ≤ 0 := by exact_mod_cast hlo
      have hh : 0 ≤ h := by exact_mod_cast hhi
      have hne : h ≠ l := fun q => e (by rw [q])
      have hd : 0 < h - l := by
        rcases lt_or_eq_of_le (hl.trans hh) with q | q
        · linarith
        · exact absurd q.symm hne
      have hs : 0 < (h - l) * (15 : ℝ)⁻¹ := by positivity
      rw [← EReal.coe_sub, ← EReal.coe_mul, ← EReal.coe_neg, Ideal.div,
        if_neg (by exact_mod_cast hs.ne'), ← EReal.coe_inv, ← EReal.coe_mul]
      refine key _ (mul_nonneg (by linarith) (inv_nonneg.2 hs.le)) ?_
      rw [← div_eq_mul_inv, div_le_iff₀ hs]
      linarith

/-- So is every code. -/
theorem cd_nat (f : Fin 128 → EReal) (k : Fin 128) : ∃ n : ℕ, n ≤ 15 ∧ cd f k = ((n : ℝ) : EReal) := by
  obtain ⟨z, hz, ez⟩ := zp_nat f
  unfold cd
  rw [ez]
  generalize Ideal.div (f k) (sc f) = y
  induction y using EReal.rec with
  | bot => exact ⟨0, by omega, by simp [EReal.bot_add]⟩
  | top =>
    refine ⟨15, le_rfl, ?_⟩
    rw [Ideal.liftRound_top, EReal.top_add_coe, max_eq_right le_top, min_eq_left le_top]
    norm_num
  | coe r =>
    rw [Ideal.liftRound_coe]
    generalize Ideal.roundHalfEven r = i
    refine ⟨(min 15 (max 0 (i + z))).toNat, by omega, ?_⟩
    have h1 : (((min 15 (max 0 (i + z))).toNat : ℕ) : ℝ) = ((min 15 (max 0 (i + (z : ℤ))) : ℤ) : ℝ) := by
      have : (((min 15 (max 0 (i + (z : ℤ)))).toNat : ℕ) : ℤ) = min 15 (max 0 (i + (z : ℤ))) :=
        Int.toNat_of_nonneg (by omega)
      exact_mod_cast this
    rw [h1]
    push_cast
    rw [EReal.coe_strictMono.monotone.map_min, EReal.coe_strictMono.monotone.map_max]
    rfl

/-- The zero point as a natural number. -/
def zpN (f : Fin 128 → EReal) : ℕ := (zp_nat f).choose
/-- The code of element `k` as a natural number. -/
def cdN (f : Fin 128 → EReal) (k : Fin 128) : ℕ := (cd_nat f k).choose

theorem zpN_le (f : Fin 128 → EReal) : zpN f ≤ 15 := (zp_nat f).choose_spec.1
theorem zp_eq (f : Fin 128 → EReal) : zp f = ((zpN f : ℝ) : EReal) := (zp_nat f).choose_spec.2
theorem cdN_le (f : Fin 128 → EReal) (k : Fin 128) : cdN f k ≤ 15 := (cd_nat f k).choose_spec.1
theorem cd_eq (f : Fin 128 → EReal) (k : Fin 128) : cd f k = ((cdN f k : ℝ) : EReal) := (cd_nat f k).choose_spec.2

/-- A small natural number converted to a 32-bit integer. -/
theorem fptosi_nat {n : ℕ} (h : n < 256) : Ideal.fptosi 32 ((n : ℝ) : EReal) = BitVec.ofNat 32 n := by
  rw [Ideal.fptosi, Ideal.toIntClamped_coe]
  have h1 : (0 : ℝ) ≤ (n : ℝ) := Nat.cast_nonneg n
  simp only [Ideal.truncInt, if_pos h1]
  rw [show ⌊(n : ℝ)⌋ = (n : ℤ) from by simp]
  rw [show max (-((2 ^ (32 - 1) : ℕ) : ℤ)) (min (((2 ^ (32 - 1) : ℕ) : ℤ) - 1) (n : ℤ)) = (n : ℤ) from by norm_num; omega]
  exact BitVec.ofInt_natCast 32 n

/-- The difference of two bytes below 16, taken in 32 bits, is the difference of the numbers. -/
theorem sub_bytes {n m : ℕ} (hn : n ≤ 15) (hm : m ≤ 15) :
    ((((BitVec.ofNat 32 n).setWidth 8).setWidth 32 - ((BitVec.ofNat 32 m).setWidth 8).setWidth 32).toInt : ℤ)
      = (n : ℤ) - m := by
  have : ∀ n m : Fin 16, ((((BitVec.ofNat 32 n).setWidth 8).setWidth 32
      - ((BitVec.ofNat 32 m).setWidth 8).setWidth 32).toInt : ℤ) = (n : ℤ) - m := by decide +kernel
  exact this ⟨n, by omega⟩ ⟨m, by omega⟩

/-- Two codes in one byte: the low one below 16, the high one shifted up by four bits. -/
theorem pack_bytes {n m : ℕ} (hn : n ≤ 15) (hm : m ≤ 15) :
    (((BitVec.ofNat 32 n).setWidth 8).setWidth 32 ||| (((BitVec.ofNat 32 m).setWidth 8).setWidth 32 <<< 4)).setWidth 8
      = (BitVec.ofNat 32 (n + 16 * m)).setWidth 8 := by
  have : ∀ n m : Fin 16, (((BitVec.ofNat 32 n).setWidth 8).setWidth 32
      ||| (((BitVec.ofNat 32 m).setWidth 8).setWidth 32 <<< 4)).setWidth 8
      = (BitVec.ofNat 32 (n + 16 * m)).setWidth 8 := by decide +kernel
  exact this ⟨n, by omega⟩ ⟨m, by omega⟩

/-- The code's and the zero point's difference, taken on the bytes they become, is their difference as numbers. -/
theorem code_sub (f : Fin 128 → EReal) (k : Fin 128) :
    (((((Ideal.fptosi 32 (cd f k)).setWidth 8).setWidth 32 - ((Ideal.fptosi 32 (zp f)).setWidth 8).setWidth 32).toInt : ℝ) : EReal)
      = cd f k - zp f := by
  rw [cd_eq, zp_eq, fptosi_nat (by have := cdN_le f k; omega), fptosi_nat (by have := zpN_le f; omega),
    sub_bytes (cdN_le f k) (zpN_le f)]
  push_cast
  rfl

/-! ## A row of 7168 numbers: 56 groups of 128 -/

/-- Group `g` of a row. -/
def grp (x : Fin 7168 → EReal) (g : Fin 56) : Fin 128 → EReal := fun k => x ⟨128 * g.val + k.val, by omega⟩
/-- The group a position of a row lies in. -/
def gOf (k : Fin 7168) : Fin 56 := ⟨k.val / 128, by omega⟩
/-- Its place there. -/
def kOf (k : Fin 7168) : Fin 128 := ⟨k.val % 128, by omega⟩
/-- A row quantised and scaled back. -/
def rowDeq (x : Fin 7168 → EReal) (k : Fin 7168) : EReal := deq (grp x (gOf k)) (kOf k)
/-- A row's scales, one to a group. -/
def rowSc (x : Fin 7168 → EReal) (g : Fin 56) : EReal := sc (grp x g)
/-- A row's zero points as bytes. -/
def rowZp (x : Fin 7168 → EReal) (g : Fin 56) : BitVec 8 := (Ideal.fptosi 32 (zp (grp x g))).setWidth 8
/-- The code at position `k` of a row. -/
def rowCd (x : Fin 7168 → EReal) (k : Fin 7168) : ℕ := cdN (grp x (gOf k)) (kOf k)
/-- A row's codes packed: byte `c` holds code `2c` in its low four bits and code `2c + 1` in its high four. -/
def rowPack (x : Fin 7168 → EReal) (c : Fin 3584) : BitVec 8 :=
  (BitVec.ofNat 32 (rowCd x ⟨2 * c.val, by omega⟩ + 16 * rowCd x ⟨2 * c.val + 1, by omega⟩)).setWidth 8

theorem gOf_mk (g : Fin 56) (k : Fin 128) (h : 128 * g.val + k.val < 7168) : gOf ⟨128 * g.val + k.val, h⟩ = g :=
  Fin.ext (show (128 * g.val + k.val) / 128 = g.val by omega)
theorem kOf_mk (g : Fin 56) (k : Fin 128) (h : 128 * g.val + k.val < 7168) : kOf ⟨128 * g.val + k.val, h⟩ = k :=
  Fin.ext (show (128 * g.val + k.val) % 128 = k.val by omega)

theorem rowCd_eq (x : Fin 7168 → EReal) (k : Fin 7168) (g : Fin 56) (j : Fin 128) (h : k.val = 128 * g.val + j.val) :
    rowCd x k = cdN (grp x g) j := by
  have e1 : gOf k = g := Fin.ext (show k.val / 128 = g.val by omega)
  have e2 : kOf k = j := Fin.ext (show k.val % 128 = j.val by omega)
  rw [rowCd, e1, e2]

/-! ## The weights: 4-bit numbers, two to a byte, with a scale and a zero point per group of 128 rows -/

/-- The 4-bit number of a byte at place 0 (low) or 1 (high). -/
def nib (b : BitVec 8) (j : ℕ) : ℕ := if j = 0 then b.toNat % 16 else b.toNat / 16
/-- The weight at row `k` of one column: its 4-bit number less the group's zero point, times the group's scale. -/
def wdeq (w : Fin 3584 → BitVec 8) (s : Fin 56 → EReal) (z : Fin 56 → BitVec 8) (k : Fin 7168) : EReal :=
  (((nib (w ⟨k.val / 2, by omega⟩) (k.val % 2) : ℝ) : EReal) - (((z (gOf k)).toNat : ℝ) : EReal)) * s (gOf k)

theorem byte_toInt (b : BitVec 8) : (b.setWidth 32).toInt = (b.toNat : ℤ) := by
  have : ∀ b : BitVec 8, (b.setWidth 32).toInt = (b.toNat : ℤ) := by decide +kernel
  exact this b
theorem low_toInt (b : BitVec 8) : (IntOp.andi (b.setWidth 32) 15#32).toInt = (nib b 0 : ℤ) := by
  have : ∀ b : BitVec 8, (IntOp.andi (b.setWidth 32) 15#32).toInt = (nib b 0 : ℤ) := by decide +kernel
  exact this b
theorem high_toInt (b : BitVec 8) : (IntOp.shrsi .vector (b.setWidth 32) 4#32).toInt = (nib b 1 : ℤ) := by
  have : ∀ b : BitVec 8, (IntOp.shrsi .vector (b.setWidth 32) 4#32).toInt = (nib b 1 : ℤ) := by decide +kernel
  exact this b

end Cert.Quant
end
-- ==== Proof.QuantValues.lean ====
/- The quantising call's four output blocks read at an index: each row's scales, zero points, packed
   codes and dequantised values are those of the quantiser of Scalars.lean on that row. -/
module

public import proofs.«01_k».proof.Proof.QuantBlocks
public import proofs.«01_k».proof.Proof.Scalars
public import Idealize.ShloMosaic.Lib.Pointwise
public import Idealize.ShloMosaic.Lib.Pipeline.Value

@[expose] public section
noncomputable section
namespace Cert.KernelIdeal.Gen
open Idealize.ShloMosaic Idealize.ShloMosaic.TcCoe
open Idealize.SL.Sem
open Cert.Quant

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]
theorem fifteen_f32 : Ideal.ofBits .f32 0x41700000#32 = ((15 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num

/-- Row `r` of a block of one group. -/
abbrev rowOf (v : Vec Ideal S128x128 .bf16) (r : Fin 128) : Fin 128 → EReal := fun k => v (ix2 r k)

theorem pay6_apply (v : Vec Ideal S128x128 .bf16) (r : Fin 128) : k0_pay6 v (ix2 r 0) = lo (rowOf v r) := by
  unfold k0_pay6 k0_pay5
  pointwise
  rw [top_f32]; rfl

theorem pay7_apply (v : Vec Ideal S128x128 .bf16) (r : Fin 128) : k0_pay7 v (ix2 r 0) = sc (rowOf v r) := by
  unfold k0_pay7 k0_pay5
  pointwise
  rw [bot_f32, pay6_apply, fifteen_f32]; rfl

theorem pay8_apply (v : Vec Ideal S128x128 .bf16) (r : Fin 128) : k0_pay8 v (ix2 r 0) = zp (rowOf v r) := by
  unfold k0_pay8
  pointwise
  rw [pay6_apply, pay7_apply, zero_sub]; rfl

theorem pay9_apply (v : Vec Ideal S128x128 .bf16) (r k : Fin 128) : k0_pay9 v (ix2 r k) = cd (rowOf v r) k := by
  unfold k0_pay9 k0_pay5
  pointwise
  rw [pay7_apply, pay8_apply, fifteen_f32]; rfl

theorem pay10_apply (v : Vec Ideal S128x128 .bf16) (r k : Fin 128) : k0_pay10 v (ix2 r k) = deq (rowOf v r) k := by
  unfold k0_pay10
  pointwise
  rw [pay7_apply, pay8_apply, pay9_apply]; rfl

/-- Two 32-bit words compared for equality. -/
theorem cmpi_eq_word (a b : BitVec 32) : IntOp.cmpi .eq a b = if a.toNat = b.toNat then 1#1 else 0#1 := by
  by_cases h : a = b
  · subst h; simp [IntOp.cmpi]
  · have h' : ¬ a.toNat = b.toNat := fun q => h (BitVec.eq_of_toNat_eq q)
    rw [if_neg h']
    show BitVec.ofBool (a == b) = 0#1
    rw [beq_eq_false_iff_ne.2 h]; rfl

/-- The first packing matrix at row `x`, column `c`: 1 at row `2c`, 16 at row `2c + 1`, zero elsewhere. -/
theorem pay1_apply (x c : Fin 128) : (k0_pay1 (F := Ideal)) (ix2 x c) =
    (if x.val = 2 * c.val then (1 : EReal) else 0) + if x.val = 2 * c.val + 1 then ((16 : ℝ) : EReal) else 0 := by
  unfold k0_pay1
  pointwise
  rw [sixteen_f32, cmpi_eq_word, cmpi_eq_word]
  have hx := x.isLt
  have hc := c.isLt
  have e1 : ((BitVec.ofNat 32 x.val).toNat = (IntOp.muli 2#32 (BitVec.ofNat 32 c.val)).toNat) = (x.val = 2 * c.val) := by
    simp only [IntOp.muli, BitVec.toNat_mul, BitVec.toNat_ofNat]; apply propext; omega
  have e2 : ((BitVec.ofNat 32 x.val).toNat = (IntOp.addi (IntOp.muli 2#32 (BitVec.ofNat 32 c.val)) 1#32).toNat)
      = (x.val = 2 * c.val + 1) := by
    simp only [IntOp.muli, IntOp.addi, BitVec.toNat_mul, BitVec.toNat_add, BitVec.toNat_ofNat]; apply propext; omega
  simp only [e1, e2]
  congr 1 <;> split_ifs <;> rfl

/-- The second one: the same with its columns moved up by 64. -/
theorem pay2_apply (x c : Fin 128) : (k0_pay2 (F := Ideal)) (ix2 x c) =
    (if x.val + 128 = 2 * c.val then (1 : EReal) else 0) + if x.val + 127 = 2 * c.val then ((16 : ℝ) : EReal) else 0 := by
  unfold k0_pay2
  pointwise
  rw [sixteen_f32, cmpi_eq_word, cmpi_eq_word]
  have hx := x.isLt
  have hc := c.isLt
  have e1 : ((BitVec.ofNat 32 x.val).toNat = (IntOp.muli 2#32 (IntOp.subi (BitVec.ofNat 32 c.val) 64#32)).toNat)
      = (x.val + 128 = 2 * c.val) := by
    simp only [IntOp.muli, IntOp.subi, BitVec.toNat_mul, BitVec.toNat_sub, BitVec.toNat_ofNat]; apply propext; omega
  have e2 : ((BitVec.ofNat 32 x.val).toNat = (IntOp.addi (IntOp.muli 2#32 (IntOp.subi (BitVec.ofNat 32 c.val) 64#32)) 1#32).toNat)
      = (x.val + 127 = 2 * c.val) := by
    simp only [IntOp.muli, IntOp.addi, IntOp.subi, BitVec.toNat_mul, BitVec.toNat_add, BitVec.toNat_sub, BitVec.toNat_ofNat]
    apply propext; omega
  simp only [e1, e2]
  congr 1 <;> split_ifs <;> rfl

theorem pay11_apply (p : FVec Ideal S128x128 .bf16) (v : Vec Ideal S128x128 .bf16) (r c : Fin 128) :
    k0_pay11 p v (ix2 r c) = ∑ x : Fin 128, cd (rowOf v r) x * p (ix2 x c) := by
  unfold k0_pay11
  pointwise
  simp only [pay9_apply]

theorem pay20_apply (p : FVec Ideal S128x128 .bf16) (v : Vec Ideal S128x128 .bf16) (r c : Fin 128) :
    k0_pay20 p v (ix2 r c) = ∑ x : Fin 128, cd (rowOf v r) x * p (ix2 x c) :=
  pay11_apply p v r c

/-- A sum against a column with 1 at row `i` and 16 at the next row picks the two terms. -/
theorem sum_pick (f : Fin 128 → EReal) (p : Fin 128 → EReal) (i : ℕ) (hi : i + 1 < 128)
    (hp : ∀ x : Fin 128, p x = (if x.val = i then (1 : EReal) else 0) + if x.val = i + 1 then ((16 : ℝ) : EReal) else 0) :
    ∑ x : Fin 128, f x * p x = f ⟨i, by omega⟩ + f ⟨i + 1, hi⟩ * ((16 : ℝ) : EReal) := by
  have h : ∀ x : Fin 128, f x * p x =
      (if x = ⟨i, by omega⟩ then f x else 0) + if x = ⟨i + 1, hi⟩ then f x * ((16 : ℝ) : EReal) else 0 := fun x => by
    rw [hp x]
    simp only [Fin.ext_iff]
    by_cases h1 : x.val = i
    · have h2 : ¬ x.val = i + 1 := by omega
      simp only [if_pos h1, if_neg h2, add_zero, mul_one]
    · simp only [if_neg h1, zero_add]
      split_ifs
      · rfl
      · exact mul_zero _
  simp only [h, Finset.sum_add_distrib, Finset.sum_ite_eq', Finset.mem_univ, if_true]

/-- A sum against a column of zeros. -/
theorem sum_none (f : Fin 128 → EReal) (p : Fin 128 → EReal) (hp : ∀ x : Fin 128, p x = 0) :
    ∑ x : Fin 128, f x * p x = 0 := by
  simp only [hp, mul_zero, Finset.sum_const_zero]

/-- Two codes of a group as one number: the first plus sixteen times the second. -/
theorem pair_eq (f : Fin 128 → EReal) (i j : Fin 128) :
    Ideal.fptosi 32 (cd f i + cd f j * ((16 : ℝ) : EReal)) = BitVec.ofNat 32 (cdN f i + 16 * cdN f j) := by
  have hi := cdN_le f i
  have hj := cdN_le f j
  rw [cd_eq, cd_eq, ← EReal.coe_mul, ← EReal.coe_add,
    show (cdN f i : ℝ) + (cdN f j : ℝ) * 16 = ((cdN f i + 16 * cdN f j : ℕ) : ℝ) by push_cast; ring]
  exact fptosi_nat (by omega)

/-- The packed codes of a pair of groups: the first 64 columns hold the first group's, the others the second's. -/
theorem pay21_apply (v w : Vec Ideal S128x128 .bf16) (r c : Fin 128) :
    k0_pay21 (k0_pay11 k0_pay1 v) (k0_pay20 k0_pay2 w) (ix2 r c) =
      (if h : c.val < 64 then
        BitVec.ofNat 32 (cdN (rowOf v r) ⟨2 * c.val, by omega⟩ + 16 * cdN (rowOf v r) ⟨2 * c.val + 1, by omega⟩)
      else
        BitVec.ofNat 32 (cdN (rowOf w r) ⟨2 * c.val - 128, by omega⟩ + 16 * cdN (rowOf w r) ⟨2 * c.val - 128 + 1, by omega⟩)).setWidth 8 := by
  unfold k0_pay21
  pointwise
  rw [pay11_apply, pay20_apply]
  congr 1
  split_ifs with h
  · rw [sum_pick _ _ (2 * c.val) (by omega) (fun x => pay1_apply x c),
      sum_none _ _ (fun x => by
        rw [pay2_apply, if_neg (by omega), if_neg (by omega), add_zero]), add_zero]
    exact pair_eq _ _ _
  · rw [sum_none _ _ (fun x => by
        rw [pay1_apply, if_neg (by omega), if_neg (by omega), add_zero]), zero_add,
      sum_pick _ _ (2 * c.val - 128) (by omega) (fun x => by
        rw [pay2_apply]
        have e1 : (x.val + 128 = 2 * c.val) = (x.val = 2 * c.val - 128) := propext (by omega)
        have e2 : (x.val + 127 = 2 * c.val) = (x.val = 2 * c.val - 128 + 1) := propext (by omega)
        simp only [e1, e2])]
    exact pair_eq _ _ _

theorem putCol_apply (g : Fin 56) (v : FVec Ideal S128x1 .f32) (acc : FVec Ideal S128x56 .f32) (r : Fin 128) (k : Fin 56) :
    putCol g v acc (ix2 r k) = if k = g then v (ix2 r 0) else acc (ix2 r k) := by
  unfold putCol
  pointwise
  have h : ∀ k g : Fin 56, IntOp.cmpi .eq (BitVec.ofNat 32 k.val) (BitVec.ofNat 32 g.val) = if k = g then 1#1 else 0#1 := by
    decide +kernel
  rw [h]
  split_ifs <;> rfl

/-- The columns put in one after another: column `k` is the one put in for `k`, if any. -/
theorem foldl_putCol (v : Fin 56 → FVec Ideal S128x1 .f32) (l : List (Fin 56)) (acc : FVec Ideal S128x56 .f32)
    (r : Fin 128) (k : Fin 56) :
    l.foldl (fun acc g => putCol g (v g) acc) acc (ix2 r k) = if k ∈ l then v k (ix2 r 0) else acc (ix2 r k) := by
  induction l generalizing acc with
  | nil => simp
  | cons g l ih =>
    rw [List.foldl_cons, ih, putCol_apply]
    by_cases h1 : k ∈ l
    · simp [h1]
    · by_cases h2 : k = g
      · subst h2; simp [h1]
      · simp [h1, h2]

theorem grpBlk_apply (x0 : Vec Ideal S128x7168 .bf16) (g : Fin 56) (r k : Fin 128) :
    grpBlk x0 g (ix2 r k) = x0 (ix2 r ⟨128 * g.val + k.val, by omega⟩) := by
  unfold grpBlk colsG
  pointwise

/-- Row `r` of a block of 7168 columns. -/
abbrev row0 (x0 : Vec Ideal S128x7168 .bf16) (r : Fin 128) : Fin 7168 → EReal := fun k => x0 (ix2 r k)

theorem rowOf_grpBlk (x0 : Vec Ideal S128x7168 .bf16) (g : Fin 56) (r : Fin 128) :
    rowOf (grpBlk x0 g) r = grp (row0 x0 r) g := funext fun k => grpBlk_apply x0 g r k

/-- The scales' block at row `r`, group `g`. -/
theorem out0_3_apply (x0 : Vec Ideal S128x7168 .bf16) (r : Fin 128) (g : Fin 56) :
    out0_3 x0 (ix2 r g) = rowSc (row0 x0 r) g := by
  rw [out0_3_eq, View.canon_unit_zero (by decide)]
  refine (foldl_putCol (fun g => k0_pay7 (grpBlk x0 g)) _ _ r g).trans ?_
  rw [if_pos (List.mem_finRange g), pay7_apply, rowOf_grpBlk]
  rfl

/-- The zero points' block at row `r`, group `g`. -/
theorem out0_4_apply (x0 : Vec Ideal S128x7168 .bf16) (r : Fin 128) (g : Fin 56) :
    out0_4 x0 (ix2 r g) = rowZp (row0 x0 r) g := by
  rw [out0_4_eq, View.canon_unit_zero (by decide)]
  refine congrArg (fun q : EReal => (Ideal.fptosi 32 q).setWidth 8)
    ((foldl_putCol (fun g => k0_pay8 (grpBlk x0 g)) _ _ r g).trans ?_)
  rw [if_pos (List.mem_finRange g), pay8_apply, rowOf_grpBlk]

/-- Where group `g`'s block sits. -/
theorem colsG_emb (g : Fin 56) (r k : Fin 128) :
    (colsG g).emb (ix2 r k : S128x128.Idx) = (ix2 r ⟨128 * g.val + k.val, by omega⟩ : S128x7168.Idx) := by
  unfold colsG
  funext a
  fin_cases a <;> apply Fin.ext <;> simp [Rect.emb, Rect.unit, ix2]

/-- Every column lies in its group's block. -/
theorem colsG_mem (r : Fin 128) (k : Fin 7168) : (ix2 r k : S128x7168.Idx) ∈ (colsG (gOf k)).set := by
  unfold colsG
  rw [Rect.mem_set_unit]
  intro a
  match a with
  | ⟨0, _⟩ => exact ⟨Nat.zero_le _, show r.val < 0 + 128 by omega⟩
  | ⟨1, _⟩ => exact ⟨show 128 * (k.val / 128) ≤ k.val by omega, show k.val < 128 * (k.val / 128) + 128 by omega⟩

/-- Where the packed codes of a pair of groups sit. -/
theorem colsH_emb (h : Fin 28) (r c : Fin 128) :
    (colsH h).emb (ix2 r c : S128x128.Idx) = (ix2 r ⟨128 * h.val + c.val, by omega⟩ : S128x3584.Idx) := by
  unfold colsH
  funext a
  fin_cases a <;> apply Fin.ext <;> simp [Rect.emb, Rect.unit, ix2]

theorem colsH_mem (r : Fin 128) (c : Fin 3584) :
    (ix2 r c : S128x3584.Idx) ∈ (colsH ⟨c.val / 128, by omega⟩).set := by
  unfold colsH
  rw [Rect.mem_set_unit]
  intro a
  match a with
  | ⟨0, _⟩ => exact ⟨Nat.zero_le _, show r.val < 0 + 128 by omega⟩
  | ⟨1, _⟩ => exact ⟨show 128 * (c.val / 128) ≤ c.val by omega, show c.val < 128 * (c.val / 128) + 128 by omega⟩

/-- The dequantised block at row `r`, column `k`. -/
theorem out0_1_apply (x0 : Vec Ideal S128x7168 .bf16) (r : Fin 128) (k : Fin 7168) :
    out0_1 x0 (ix2 r k) = rowDeq (row0 x0 r) k := by
  rw [out0_1_eq]
  refine View.canon_apply_of_pieces (Val := Elt Ideal) (e := .bf16) (S := S128x7168)
    (fun y => rowDeq (row0 x0 (y 0)) (y 1)) _ ?_ _ ?_
  · intro p hp x
    obtain ⟨g, -, rfl⟩ := List.mem_map.1 hp
    obtain ⟨r', k', rfl⟩ : ∃ r' k' : Fin 128, x = (ix2 r' k' : S128x128.Idx) := ⟨_, _, eq_ix2 (n0 := 128) (n1 := 128) x⟩
    show k0_pay10 (grpBlk x0 g) (ix2 r' k') = rowDeq (row0 x0 ((colsG g).emb (ix2 r' k') 0)) ((colsG g).emb (ix2 r' k') 1)
    rw [pay10_apply, rowOf_grpBlk, colsG_emb]
    show _ = deq (grp (row0 x0 r') (gOf ⟨128 * g.val + k'.val, _⟩)) (kOf ⟨128 * g.val + k'.val, _⟩)
    rw [gOf_mk, kOf_mk]
  · exact ⟨_, List.mem_map.2 ⟨gOf k, List.mem_reverse.2 (List.mem_finRange _), rfl⟩, colsG_mem r k⟩

/-- The packed codes' block at row `r`, byte `c`. -/
theorem out0_2_apply (x0 : Vec Ideal S128x7168 .bf16) (r : Fin 128) (c : Fin 3584) :
    out0_2 x0 (ix2 r c) = rowPack (row0 x0 r) c := by
  rw [out0_2_eq]
  refine View.canon_apply_of_pieces (Val := Elt Ideal) (e := .i8) (S := S128x3584)
    (fun y => rowPack (row0 x0 (y 0)) (y 1)) _ ?_ _ ?_
  · intro p hp x
    obtain ⟨h, -, rfl⟩ := List.mem_map.1 hp
    obtain ⟨r', c', rfl⟩ : ∃ r' k' : Fin 128, x = (ix2 r' k' : S128x128.Idx) := ⟨_, _, eq_ix2 (n0 := 128) (n1 := 128) x⟩
    show k0_pay21 (k0_pay11 k0_pay1 (grpBlk x0 ⟨2 * h.val, _⟩)) (k0_pay20 k0_pay2 (grpBlk x0 ⟨2 * h.val + 1, _⟩)) (ix2 r' c')
      = rowPack (row0 x0 ((colsH h).emb (ix2 r' c') 0)) ((colsH h).emb (ix2 r' c') 1)
    rw [pay21_apply, rowOf_grpBlk, rowOf_grpBlk, colsH_emb]
    show _ = rowPack (row0 x0 r') ⟨128 * h.val + c'.val, _⟩
    rw [rowPack]
    congr 1
    split_ifs with hc
    · rw [rowCd_eq _ _ ⟨2 * h.val, by omega⟩ ⟨2 * c'.val, by omega⟩ (by show 2 * (128 * h.val + c'.val) = 128 * (2 * h.val) + 2 * c'.val; omega),
        rowCd_eq _ _ ⟨2 * h.val, by omega⟩ ⟨2 * c'.val + 1, by omega⟩ (by show 2 * (128 * h.val + c'.val) + 1 = 128 * (2 * h.val) + (2 * c'.val + 1); omega)]
    · rw [rowCd_eq _ _ ⟨2 * h.val + 1, by omega⟩ ⟨2 * c'.val - 128, by omega⟩ (by show 2 * (128 * h.val + c'.val) = 128 * (2 * h.val + 1) + (2 * c'.val - 128); omega),
        rowCd_eq _ _ ⟨2 * h.val + 1, by omega⟩ ⟨2 * c'.val - 128 + 1, by omega⟩ (by show 2 * (128 * h.val + c'.val) + 1 = 128 * (2 * h.val + 1) + (2 * c'.val - 128 + 1); omega)]
  · exact ⟨_, List.mem_map.2 ⟨⟨c.val / 128, by omega⟩, List.mem_reverse.2 (List.mem_finRange _), rfl⟩, colsH_mem r c⟩

end Cert.KernelIdeal.Gen
end
-- ==== Proof.QuantArrays.lean ====
/- What the quantising call leaves in its four result arrays, as functions of the activations it reads:
   the blocks of 128 rows tile the arrays, and each block is what QuantValues.lean says. -/
module

public import proofs.«01_k».proof.Proof.QuantValues
public import Idealize.ShloMosaic.Lib.Pipeline.ValueKit

@[expose] public section
noncomputable section
namespace Cert.KernelIdeal.Gen
open Idealize.ShloMosaic Idealize.ShloMosaic.TcCoe
open Idealize.SL.Sem
open Cert.Quant

variable (V : (c : Dev nD) → (b : Ref sig .tc) → Buf (Elt Ideal) ((c : Thread nD τ).loc b))

/-- Row `r` of the activations the call reads. -/
def actRow (c : Dev nD) (r : Fin 1536) : Fin 7168 → EReal := fun k => V c main_v0 (ix2 r k : S1536x7168.Idx)

theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![t.val, 0] := by decide +kernel
theorem idx0_3 : ∀ t : Fin cfg0.N, win0_3.index t = ![t.val, 0] := by decide +kernel
theorem idx0_4 : ∀ t : Fin cfg0.N, win0_4.index t = ![t.val, 0] := by decide +kernel

/-- The block at point `t` is rows `128 t` onwards. -/
theorem iblk0_row (c : Dev nD) (t : Fin cfg0.N) (r : Fin 128) (R : Fin 1536) (hR : R.val = 128 * t.val + r.val) :
    row0 (iblk0 V c 0 t) r = actRow V c R := by
  funext k
  unfold row0 actRow
  blk_ext [iblk0, idx0_0 t]

theorem ptLt (t : Fin cfg0.N) (r : Fin 128) : 128 * t.val + r.val < 1536 := by
  have : t.val < 12 := t.isLt
  omega

/-- The dequantised activations. -/
def actDeq (c : Dev nD) (y : S1536x7168.Idx) : EReal := rowDeq (actRow V c (y 0)) (y 1)
theorem actDeq_at (c : Dev nD) (r : Fin 1536) (k : Fin 7168) : actDeq V c (ix2 r k) = rowDeq (actRow V c r) k := by
  unfold actDeq; rfl

theorem arr0_1 (c : Dev nD) : (dat0 V c).arrAt 1 cfg0.N = actDeq V c := by
  refine (dat0 V c).arrAt_eq_of_covers 1 _ (by decide +kernel) fun t hf y => ?_
  blk_simp; rw [after0_1]
  obtain ⟨r, k, rfl⟩ : ∃ (r : Fin 128) (k : Fin 7168), y = (ix2 r k : S128x7168.Idx) := ⟨_, _, eq_ix2 (n0 := 128) (n1 := 7168) y⟩
  refine (out0_1_apply _ r k).trans ?_
  have he : (win0_1.blk t).view.emb (ix2 r k : S128x7168.Idx) = (ix2 ⟨128 * t.val + r.val, ptLt t r⟩ k : S1536x7168.Idx) := by
    blk_ext [idx0_1 t]
  refine Eq.trans ?_ (congrArg (actDeq V c) he).symm
  rw [actDeq_at, iblk0_row V c t r ⟨128 * t.val + r.val, ptLt t r⟩ rfl]

/-- The packed codes. -/
def actPack (c : Dev nD) (y : S1536x3584.Idx) : BitVec 8 := rowPack (actRow V c (y 0)) (y 1)
theorem actPack_at (c : Dev nD) (r : Fin 1536) (k : Fin 3584) : actPack V c (ix2 r k) = rowPack (actRow V c r) k := by
  unfold actPack; rfl

theorem arr0_2 (c : Dev nD) : (dat0 V c).arrAt 2 cfg0.N = actPack V c := by
  refine (dat0 V c).arrAt_eq_of_covers 2 _ (by decide +kernel) fun t hf y => ?_
  blk_simp; rw [after0_2]
  obtain ⟨r, k, rfl⟩ : ∃ (r : Fin 128) (k : Fin 3584), y = (ix2 r k : S128x3584.Idx) := ⟨_, _, eq_ix2 (n0 := 128) (n1 := 3584) y⟩
  refine (out0_2_apply _ r k).trans ?_
  have he : (win0_2.blk t).view.emb (ix2 r k : S128x3584.Idx) = (ix2 ⟨128 * t.val + r.val, ptLt t r⟩ k : S1536x3584.Idx) := by
    blk_ext [idx0_2 t]
  refine Eq.trans ?_ (congrArg (actPack V c) he).symm
  rw [actPack_at, iblk0_row V c t r ⟨128 * t.val + r.val, ptLt t r⟩ rfl]

/-- The scales. -/
def actSc (c : Dev nD) (y : S1536x56.Idx) : EReal := rowSc (actRow V c (y 0)) (y 1)
theorem actSc_at (c : Dev nD) (r : Fin 1536) (k : Fin 56) : actSc V c (ix2 r k) = rowSc (actRow V c r) k := by
  unfold actSc; rfl

theorem arr0_3 (c : Dev nD) : (dat0 V c).arrAt 3 cfg0.N = actSc V c := by
  refine (dat0 V c).arrAt_eq_of_covers 3 _ (by decide +kernel) fun t hf y => ?_
  blk_simp; rw [after0_3]
  obtain ⟨r, k, rfl⟩ : ∃ (r : Fin 128) (k : Fin 56), y = (ix2 r k : S128x56.Idx) := ⟨_, _, eq_ix2 (n0 := 128) (n1 := 56) y⟩
  refine (out0_3_apply _ r k).trans ?_
  have he : (win0_3.blk t).view.emb (ix2 r k : S128x56.Idx) = (ix2 ⟨128 * t.val + r.val, ptLt t r⟩ k : S1536x56.Idx) := by
    blk_ext [idx0_3 t]
  refine Eq.trans ?_ (congrArg (actSc V c) he).symm
  rw [actSc_at, iblk0_row V c t r ⟨128 * t.val + r.val, ptLt t r⟩ rfl]

/-- The zero points. -/
def actZp (c : Dev nD) (y : S1536x56.Idx) : BitVec 8 := rowZp (actRow V c (y 0)) (y 1)
theorem actZp_at (c : Dev nD) (r : Fin 1536) (k : Fin 56) : actZp V c (ix2 r k) = rowZp (actRow V c r) k := by
  unfold actZp; rfl

theorem arr0_4 (c : Dev nD) : (dat0 V c).arrAt 4 cfg0.N = actZp V c := by
  refine (dat0 V c).arrAt_eq_of_covers 4 _ (by decide +kernel) fun t hf y => ?_
  blk_simp; rw [after0_4]
  obtain ⟨r, k, rfl⟩ : ∃ (r : Fin 128) (k : Fin 56), y = (ix2 r k : S128x56.Idx) := ⟨_, _, eq_ix2 (n0 := 128) (n1 := 56) y⟩
  refine (out0_4_apply _ r k).trans ?_
  have he : (win0_4.blk t).view.emb (ix2 r k : S128x56.Idx) = (ix2 ⟨128 * t.val + r.val, ptLt t r⟩ k : S1536x56.Idx) := by
    blk_ext [idx0_4 t]
  refine Eq.trans ?_ (congrArg (actZp V c) he).symm
  rw [actZp_at, iblk0_row V c t r ⟨128 * t.val + r.val, ptLt t r⟩ rfl]

end Cert.KernelIdeal.Gen
end
-- ==== Proof.MatmulBlocks.lean ====
/- The matrix call's one output block, its 56 dequantised groups of weight rows written uniformly. -/
module

public import proofs.«01_k».proof.Proof.Gen.KernelIdeal.Frame
public import Idealize.ShloMosaic.Lib.Pipeline.Value

@[expose] public section
noncomputable section
namespace Cert.KernelIdeal.Gen
open Idealize.ShloMosaic Idealize.ShloMosaic.TcCoe
open Idealize.SL.Sem

variable {F : FTy → Type} [FloatOps F]

/-- Group `g`'s 128 rows of the dequantised weights. -/
def rowsW (g : Fin 56) : Rect S7168x256 :=
  Rect.unit (s := S7168x256) ![128 * g.val, 0] S128x256.size
    (fun a => by fin_cases a <;> simp [Shape.size] <;> omega)

/-- Group `g`'s 64 rows of packed weights: two 4-bit weights to a byte. -/
def rowsP (g : Fin 56) : Rect S3584x256 :=
  Rect.unit (s := S3584x256) ![64 * g.val, 0] S64x256.size
    (fun a => by fin_cases a <;> simp [Shape.size] <;> omega)

theorem sliceRow (g : Fin 56) : S56x256.Slices ![g.val, 0] S1x256 :=
  ⟨rfl, fun a => by fin_cases a <;> simp [Shape.size] <;> omega⟩

/-- Group `g`'s dequantised weights, from the scales, the zero points and the group's packed bytes. -/
def wdBlk (g : Fin 56) (s z : FVec F S56x256 .bf16) (w : Vec F S64x256 .i8) : FVec F S128x256 .bf16 :=
  shapeCast S128x256
    (mulf
      (subf
        (sitofp .bf16 (shapeCast S128x256
          (concatenate S64x2x256 1
            [⟨S64x1x256, shapeCast S64x1x256 (andi (extui 32 w natLt_8_32) (broadcast S64x256 15#32)) shapeCasts_S64x256_S64x1x256⟩,
             ⟨S64x1x256, shapeCast S64x1x256 (shrsi (extui 32 w natLt_8_32) (broadcast S64x256 4#32)) shapeCasts_S64x256_S64x1x256⟩]
            concatenates_S64x1x256_S64x1x256_S64x2x256_d1) shapeCasts_S64x2x256_S128x256))
        (broadcastTo S128x256 (extractStridedSlice S1x256 ![g.val, 0] z (sliceRow g)) broadcasts_S1x256_S128x256))
      (broadcastTo S128x256 (extractStridedSlice S1x256 ![g.val, 0] s (sliceRow g)) broadcasts_S1x256_S128x256))
    shapeCasts_S128x256_S128x256

/-- The 56 stores that fill the dequantised weights, last first. -/
def wdPieces (s z : FVec F S56x256 .bf16) (w : Fin 56 → Vec F S64x256 .i8) : List (View.Piece (Elt F) S7168x256 .bf16) :=
  (List.finRange 56).reverse.map fun g => ⟨rowsW g, wdBlk g s z (w g)⟩

set_option maxRecDepth 20000 in
/-- What the body stores: the product of the activations with the dequantised weights it has just written. -/
theorem kernelRun1_A_pieces (c : Dev nD) (i : grid1.Coords) (arg1 : Memref sig .tc .vmem S1536x7168 .bf16) (harg1 : arg1.IsWhole) (arg2 : Memref sig .tc .vmem S3584x256 .i8) (harg2 : arg2.IsWhole) (arg3 : Memref sig .tc .vmem S56x256 .f32) (harg3 : arg3.IsWhole) (arg4 : Memref sig .tc .vmem S56x256 .i8) (harg4 : arg4.IsWhole) (arg5 : Memref sig .tc .vmem S1536x256 .bf16) (harg5 : arg5.IsWhole) (arg6 : Memref sig .tc .vmem S7168x256 .bf16) (harg6 : arg6.IsWhole)
    (x0 : Vec F S1536x7168 .bf16) (x1 : Vec F S3584x256 .i8) (x2 : Vec F S56x256 .f32) (x3 : Vec F S56x256 .i8) :
    (kernelRun1_A c i arg1 harg1 arg2 harg2 arg3 harg3 arg4 harg4 arg5 harg5 arg6 harg6 x0 x1 x2 x3).1 =
      [⟨Rect.unit ![0, 0] S1536x256.size inb_S1536x256_S1536x256_0_0,
        k1_pay93
          (View.readAt (Elt F) arg1.view (Rect.unit ![0, 0] S1536x7168.size inb_S1536x7168_S1536x7168_0_0).toLoadRect (harg1.unread x0))
          (arg6.view.readCov (wdPieces
            (k1_pay1 (View.readAt (Elt F) arg3.view (Rect.unit ![0, 0] S56x256.size inb_S56x256_S56x256_0_0).toLoadRect (harg3.unread x2)))
            (k1_pay2 (View.readAt (Elt F) arg4.view (Rect.unit ![0, 0] S56x256.size inb_S56x256_S56x256_0_0).toLoadRect (harg4.unread x3)))
            (fun g => View.readAt (Elt F) arg2.view (rowsP g).toLoadRect (harg2.unread x1)))
            (Rect.unit ![0, 0] S7168x256.size inb_S7168x256_S7168x256_0_0).toLoadRect)⟩] := rfl

end Cert.KernelIdeal.Gen
end
-- ==== Proof.MatmulValues.lean ====
/- The matrix call's output block read at an index: a row of activations against a column of weights,
   the column dequantised as Scalars.lean says. -/
module

public import proofs.«01_k».proof.Proof.MatmulBlocks
public import proofs.«01_k».proof.Proof.Scalars
public import Idealize.ShloMosaic.Lib.Pointwise

@[expose] public section
noncomputable section
namespace Cert.KernelIdeal.Gen
open Idealize.ShloMosaic Idealize.ShloMosaic.TcCoe
open Idealize.SL.Sem
open Cert.Quant

/-- Row `q` of group `g`'s dequantised weights. -/
theorem wdBlk_apply (g : Fin 56) (s z : FVec Ideal S56x256 .bf16) (w : Vec Ideal S64x256 .i8) (q : Fin 128) (n : Fin 256) :
    wdBlk g s z w (ix2 q n) =
      (((nib (w (ix2 ⟨q.val / 2, by omega⟩ n)) (q.val % 2) : ℝ) : EReal) - z (ix2 g n)) * s (ix2 g n) := by
  unfold wdBlk
  pointwise
  congr 2
  refine congrArg (fun i : ℤ => ((i : ℝ) : EReal)) (?_ : BitVec.toInt (dite _ _ _) = (nib _ _ : ℤ))
  rcases Nat.mod_two_eq_zero_or_one q.val with h | h
  · rw [dif_pos (by omega), low_toInt]; simp only [h]
  · rw [dif_neg (by omega), high_toInt]; simp only [h]

/-- The zero points as numbers. -/
theorem pay2w_apply (x3 : Vec Ideal S56x256 .i8) (g : Fin 56) (n : Fin 256) :
    (k1_pay2 (F := Ideal) x3 (ix2 g n) : EReal) = (((x3 (ix2 g n)).toNat : ℝ) : EReal) := by
  unfold k1_pay2
  pointwise
  show ((((x3 (ix2 g n)).setWidth 32).toInt : ℝ) : EReal) = _
  rw [byte_toInt]; push_cast; rfl

theorem rowsW_emb (g : Fin 56) (q : Fin 128) (n : Fin 256) :
    (rowsW g).emb (ix2 q n : S128x256.Idx) = (ix2 ⟨128 * g.val + q.val, by omega⟩ n : S7168x256.Idx) := by
  unfold rowsW
  funext a
  fin_cases a <;> apply Fin.ext <;> simp [Rect.emb, Rect.unit, ix2]

theorem rowsW_mem (y : S7168x256.Idx) : ∃ g : Fin 56, y ∈ (rowsW g).set := by
  have h0 : (y 0).val < 7168 := (y 0).isLt
  have h1 : (y 1).val < 256 := (y 1).isLt
  refine ⟨⟨(y 0).val / 128, by omega⟩, ?_⟩
  unfold rowsW
  rw [Rect.mem_set_unit]
  intro a
  match a with
  | ⟨0, _⟩ => exact ⟨show 128 * ((y 0).val / 128) ≤ (y 0).val by omega, show (y 0).val < 128 * ((y 0).val / 128) + 128 by omega⟩
  | ⟨1, _⟩ => exact ⟨Nat.zero_le _, show (y 1).val < 0 + 256 by omega⟩

/-- Group `g`'s packed rows of a block of packed weights. -/
def packedBlk (x1 : Vec Ideal S3584x256 .i8) (g : Fin 56) : Vec Ideal S64x256 .i8 := View.ld x1 (rowsP g)

theorem packedBlk_apply (x1 : Vec Ideal S3584x256 .i8) (g : Fin 56) (q : Fin 64) (n : Fin 256) :
    packedBlk x1 g (ix2 q n) = x1 (ix2 ⟨64 * g.val + q.val, by omega⟩ n) := by
  unfold packedBlk rowsP
  pointwise

/-- The 56 stores cover the dequantised weights. -/
theorem wdPieces_cover (s z : FVec Ideal S56x256 .bf16) (w : Fin 56 → Vec Ideal S64x256 .i8) (y : S7168x256.Idx) :
    ∃ p ∈ wdPieces s z w, y ∈ p.1.set := by
  obtain ⟨g, hg⟩ := rowsW_mem y
  exact ⟨_, List.mem_map.2 ⟨g, List.mem_reverse.2 (List.mem_finRange _), rfl⟩, hg⟩

/-- The dequantised weights at row `k`, column `n`. -/
theorem wd_apply (x1 : Vec Ideal S3584x256 .i8) (x2 : Vec Ideal S56x256 .f32) (x3 : Vec Ideal S56x256 .i8)
    (k : Fin 7168) (n : Fin 256) :
    View.canon (wdPieces (k1_pay1 x2) (k1_pay2 x3) (packedBlk x1)) (ix2 k n) =
      wdeq (fun q => x1 (ix2 q n)) (fun g => x2 (ix2 g n)) (fun g => x3 (ix2 g n)) k := by
  refine View.canon_apply_of_pieces (Val := Elt Ideal) (e := .bf16) (S := S7168x256)
    (fun y => wdeq (fun q => x1 (ix2 q (y 1))) (fun g => x2 (ix2 g (y 1))) (fun g => x3 (ix2 g (y 1))) (y 0)) _ ?_ _
    (wdPieces_cover _ _ _ _)
  intro p hp x
  obtain ⟨g, -, rfl⟩ := List.mem_map.1 hp
  obtain ⟨q, n, rfl⟩ : ∃ (q : Fin 128) (n : Fin 256), x = (ix2 q n : S128x256.Idx) := ⟨_, _, eq_ix2 (n0 := 128) (n1 := 256) x⟩
  show wdBlk g (k1_pay1 x2) (k1_pay2 x3) (packedBlk x1 g) (ix2 q n) =
    wdeq (fun q' => x1 (ix2 q' ((rowsW g).emb (ix2 q n) 1))) (fun g' => x2 (ix2 g' ((rowsW g).emb (ix2 q n) 1)))
      (fun g' => x3 (ix2 g' ((rowsW g).emb (ix2 q n) 1))) ((rowsW g).emb (ix2 q n) 0)
  rw [wdBlk_apply, rowsW_emb, pay2w_apply, packedBlk_apply]
  have hk : 128 * g.val + q.val < 7168 := by omega
  show _ = (((nib (x1 (ix2 ⟨(128 * g.val + q.val) / 2, _⟩ n)) ((128 * g.val + q.val) % 2) : ℝ) : EReal)
    - (((x3 (ix2 (gOf ⟨128 * g.val + q.val, hk⟩) n)).toNat : ℝ) : EReal)) * x2 (ix2 (gOf ⟨128 * g.val + q.val, hk⟩) n)
  rw [gOf_mk]
  have e1 : (⟨64 * g.val + q.val / 2, by omega⟩ : Fin 3584) = ⟨(128 * g.val + q.val) / 2, by omega⟩ := Fin.ext (by simp only; omega)
  have e2 : q.val % 2 = (128 * g.val + q.val) % 2 := by omega
  rw [e1, e2]
  rfl

theorem pay93_apply (a : Vec Ideal S1536x7168 .bf16) (wd : Vec Ideal S7168x256 .bf16) (r : Fin 1536) (n : Fin 256) :
    (k1_pay93 (F := Ideal) a wd (ix2 r n) : EReal) = ∑ k : Fin 7168, (a (ix2 r k) : EReal) * wd (ix2 k n) := by
  unfold k1_pay93
  pointwise

/-- Reading the scratch back whole gives what the 56 stores left. -/
theorem readCov_wd (m : Memref sig .tc .vmem S7168x256 .bf16) (s z : FVec Ideal S56x256 .bf16) (w : Fin 56 → Vec Ideal S64x256 .i8) :
    m.view.readCov (wdPieces s z w) (Rect.unit ![0, 0] S7168x256.size inb_S7168x256_S7168x256_0_0).toLoadRect =
      View.canon (wdPieces s z w) := by
  refine (View.readCov_eq_canon_ld _ _ _ (fun y => wdPieces_cover _ _ _ _)).trans ?_
  rw [View.ld_unit_zero (by decide)]

/-- The output block at row `r`, column `n`. -/
theorem out1_A_4_apply (c : Dev nD) (i : grid1.Coords) (arg1 : Memref sig .tc .vmem S1536x7168 .bf16) (harg1 : arg1.IsWhole) (arg2 : Memref sig .tc .vmem S3584x256 .i8) (harg2 : arg2.IsWhole) (arg3 : Memref sig .tc .vmem S56x256 .f32) (harg3 : arg3.IsWhole) (arg4 : Memref sig .tc .vmem S56x256 .i8) (harg4 : arg4.IsWhole) (arg5 : Memref sig .tc .vmem S1536x256 .bf16) (harg5 : arg5.IsWhole) (arg6 : Memref sig .tc .vmem S7168x256 .bf16) (harg6 : arg6.IsWhole)
    (x0 : Vec Ideal S1536x7168 .bf16) (x1 : Vec Ideal S3584x256 .i8) (x2 : Vec Ideal S56x256 .f32) (x3 : Vec Ideal S56x256 .i8)
    (r : Fin 1536) (n : Fin 256) :
    (out1_A_4 c i arg1 harg1 arg2 harg2 arg3 harg3 arg4 harg4 arg5 harg5 arg6 harg6 x0 x1 x2 x3 (ix2 r n) : EReal) =
      ∑ k : Fin 7168, (x0 (ix2 r k) : EReal) *
        wdeq (fun q => x1 (ix2 q n)) (fun g => x2 (ix2 g n)) (fun g => x3 (ix2 g n)) k := by
  unfold out1_A_4
  rw [View.read_writes_eq_canon _ _ _ (cover1_A_4 c i arg1 harg1 arg2 harg2 arg3 harg3 arg4 harg4 arg5 harg5 arg6 harg6 x0 x1 x2 x3),
    kernelRun1_A_pieces, View.canon_unit_zero (by decide)]
  have ea : View.readAt (Elt Ideal) arg1.view (Rect.unit ![0, 0] S1536x7168.size inb_S1536x7168_S1536x7168_0_0).toLoadRect (harg1.unread x0) = x0 := by
    rw [View.readAt_eq_ld, harg1.read_unread, View.ld_unit_zero (by decide)]
  have es : View.readAt (Elt Ideal) arg3.view (Rect.unit ![0, 0] S56x256.size inb_S56x256_S56x256_0_0).toLoadRect (harg3.unread x2) = x2 := by
    rw [View.readAt_eq_ld, harg3.read_unread, View.ld_unit_zero (by decide)]
  have ez : View.readAt (Elt Ideal) arg4.view (Rect.unit ![0, 0] S56x256.size inb_S56x256_S56x256_0_0).toLoadRect (harg4.unread x3) = x3 := by
    rw [View.readAt_eq_ld, harg4.read_unread, View.ld_unit_zero (by decide)]
  have ew : (fun g => View.readAt (Elt Ideal) arg2.view (rowsP g).toLoadRect (harg2.unread x1)) = packedBlk x1 := by
    funext g
    rw [View.readAt_eq_ld, harg2.read_unread]; rfl
  rw [ea]
  refine (pay93_apply x0 _ r n).trans (Finset.sum_congr rfl fun k _ => ?_)
  congr 1
  rw [es, ez]
  refine Eq.trans ?_ (wd_apply x1 x2 x3 k n)
  rw [← ew]
  exact congrFun (readCov_wd arg6 _ _ _) _

end Cert.KernelIdeal.Gen
end
-- ==== Proof.MatmulArrays.lean ====
/- What the matrix call leaves in its result array, as a function of the four arrays it reads. -/
module

public import proofs.«01_k».proof.Proof.MatmulValues
public import Idealize.ShloMosaic.Lib.Pipeline.ValueKit

@[expose] public section
noncomputable section
namespace Cert.KernelIdeal.Gen
open Idealize.ShloMosaic Idealize.ShloMosaic.TcCoe
open Idealize.SL.Sem
open Cert.Quant

variable (V : (c : Dev nD) → (b : Ref sig .tc) → Buf (Elt Ideal) ((c : Thread nD τ).loc b))

theorem idx1_0 : ∀ t : Fin cfg1.N, win1_0.index t = ![0, 0] := by decide +kernel
theorem idx1_1 : ∀ t : Fin cfg1.N, win1_1.index t = ![0, t.val] := by decide +kernel
theorem idx1_2 : ∀ t : Fin cfg1.N, win1_2.index t = ![0, t.val] := by decide +kernel
theorem idx1_3 : ∀ t : Fin cfg1.N, win1_3.index t = ![0, t.val] := by decide +kernel
theorem idx1_4 : ∀ t : Fin cfg1.N, win1_4.index t = ![0, t.val] := by decide +kernel

theorem colLt (t : Fin cfg1.N) (n : Fin 256) : 256 * t.val + n.val < 18432 := by
  have : t.val < 72 := t.isLt
  omega

/-- Row `r` of `a` against column `n` of the dequantised weights. -/
def mm (a : S1536x7168.Idx → EReal) (w : S3584x18432.Idx → BitVec 8) (s : S56x18432.Idx → EReal) (z : S56x18432.Idx → BitVec 8)
    (r : Fin 1536) (n : Fin 18432) : EReal :=
  ∑ k : Fin 7168, a (ix2 r k) * wdeq (fun q => w (ix2 q n)) (fun g => s (ix2 g n)) (fun g => z (ix2 g n)) k

theorem iblk1_0_apply (c : Dev nD) (t : Fin cfg1.N) (r : Fin 1536) (k : Fin 7168) :
    iblk1 V c 0 t (ix2 r k : S1536x7168.Idx) = V c main_v1_0 (ix2 r k : S1536x7168.Idx) := by
  blk_ext [iblk1, idx1_0 t]
theorem iblk1_1_apply (c : Dev nD) (t : Fin cfg1.N) (q : Fin 3584) (n : Fin 256) :
    iblk1 V c 1 t (ix2 q n : S3584x256.Idx) = V c main_arg1 (ix2 q ⟨256 * t.val + n.val, colLt t n⟩ : S3584x18432.Idx) := by
  blk_ext [iblk1, idx1_1 t]
theorem iblk1_2_apply (c : Dev nD) (t : Fin cfg1.N) (g : Fin 56) (n : Fin 256) :
    iblk1 V c 2 t (ix2 g n : S56x256.Idx) = V c main_arg2 (ix2 g ⟨256 * t.val + n.val, colLt t n⟩ : S56x18432.Idx) := by
  blk_ext [iblk1, idx1_2 t]
theorem iblk1_3_apply (c : Dev nD) (t : Fin cfg1.N) (g : Fin 56) (n : Fin 256) :
    iblk1 V c 3 t (ix2 g n : S56x256.Idx) = V c main_arg3 (ix2 g ⟨256 * t.val + n.val, colLt t n⟩ : S56x18432.Idx) := by
  blk_ext [iblk1, idx1_3 t]

/-- The product, whole. -/
theorem arr1_4 (c : Dev nD) : (dat1 V c).arrAt 4 cfg1.N =
    fun y : S1536x18432.Idx => mm (V c main_v1_0) (V c main_arg1) (V c main_arg2) (V c main_arg3) (y 0) (y 1) := by
  refine (dat1 V c).arrAt_eq_of_covers 4 _ (by decide +kernel) fun t hf y => ?_
  blk_simp; rw [after1_4]
  obtain ⟨r, n, rfl⟩ : ∃ (r : Fin 1536) (n : Fin 256), y = (ix2 r n : S1536x256.Idx) := ⟨_, _, eq_ix2 (n0 := 1536) (n1 := 256) y⟩
  unfold outsAt1
  refine (out1_A_4_apply _ _ _ _ _ _ _ _ _ _ _ _ _ _ _ _ _ _ r n).trans ?_
  have he : (win1_4.blk t).view.emb (ix2 r n : S1536x256.Idx) = (ix2 r ⟨256 * t.val + n.val, colLt t n⟩ : S1536x18432.Idx) := by
    blk_ext [idx1_4 t]
  refine Eq.trans ?_ (congrArg (fun z : S1536x18432.Idx => mm (V c main_v1_0) (V c main_arg1) (V c main_arg2) (V c main_arg3) (z 0) (z 1)) he.symm)
  unfold mm
  refine Finset.sum_congr rfl fun k _ => congrArg₂ (fun a b : EReal => a * b) (iblk1_0_apply V c t r k) ?_
  congr 1
  · funext q; exact iblk1_1_apply V c t q n
  · funext g; exact iblk1_2_apply V c t g n
  · funext g; exact iblk1_3_apply V c t g n

end Cert.KernelIdeal.Gen
end
-- ==== Proof.KernelResults.lean ====
/- The four results of the two kernel calls, read at an index as functions of the arguments. -/
module

public import proofs.«01_k».proof.Proof.KernelRun
public import proofs.«01_k».proof.Proof.QuantArrays
public import proofs.«01_k».proof.Proof.MatmulArrays

@[expose] public section
noncomputable section
namespace Cert.KernelIdeal.Gen
open Idealize.ShloMosaic Idealize.ShloMosaic.TcCoe Idealize.ShloMosaic.Tactic
open Cert.Quant

variable (m : (ℓ : Loc nD τ sig) → Buf (Elt Ideal) ℓ) (ρ : Dev nD → PrngReg)

/-- Two axes of 4 and 384 laid out as one of 1536. -/
theorem join_apply {α : Type} {n : ℕ} (x : (⟨3, ![4, 384, n]⟩ : Shape).Idx → α)
    (h : (⟨3, ![4, 384, n]⟩ : Shape).ShapeCasts ⟨2, ![1536, n]⟩) (b : Fin 4) (s : Fin 384) (k : Fin n) :
    shapeCast ⟨2, ![1536, n]⟩ x h (ix2 (⟨384 * b.val + s.val, by omega⟩ : Fin 1536) k) = x (ix3 b s k) :=
  shapeCast_apply x h _ _ (by
    rw [Shape.rowMajor_val_three, Shape.rowMajor_val_two]
    show (b.val * 384 + s.val) * n + k.val = (384 * b.val + s.val) * n + k.val
    rw [Nat.mul_comm b.val 384])

/-- One axis of 1536 laid out as two of 4 and 384. -/
theorem split_apply {α : Type} {n : ℕ} (x : (⟨2, ![1536, n]⟩ : Shape).Idx → α)
    (h : (⟨2, ![1536, n]⟩ : Shape).ShapeCasts ⟨3, ![4, 384, n]⟩) (b : Fin 4) (s : Fin 384) (k : Fin n) :
    shapeCast ⟨3, ![4, 384, n]⟩ x h (ix3 b s k) = x (ix2 (⟨384 * b.val + s.val, by omega⟩ : Fin 1536) k) :=
  shapeCast_apply x h _ _ (by
    rw [Shape.rowMajor_val_three, Shape.rowMajor_val_two]
    show (384 * b.val + s.val) * n + k.val = (b.val * 384 + s.val) * n + k.val
    rw [Nat.mul_comm b.val 384])

/-! ### The host lines -/

theorem W1_v0 (c : Dev nD) : W1 m ρ c (Proc.devRef .tc main_v0)
    = shapeCast S1536x7168 (m ((c : Thread nD τ).loc main_arg0)) shapeCasts_S4x384x7168_S1536x7168 := by
  unfold W1 hostOps0
  after_results_simp
  rfl

theorem W4_v3 (c : Dev nD) : W4 m ρ c (Proc.devRef .tc main_v3)
    = shapeCast S4x384x18432 (W3 m ρ c (Proc.devRef .tc main_v2)) shapeCasts_S1536x18432_S4x384x18432 := by
  unfold W4 hostOps2
  after_results_simp
  rfl

theorem W4_v4 (c : Dev nD) : W4 m ρ c (Proc.devRef .tc main_v4)
    = shapeCast S4x384x3584 (W3 m ρ c (Proc.devRef .tc main_v1_1)) shapeCasts_S1536x3584_S4x384x3584 := by
  unfold W4 hostOps2
  after_results_simp
  rfl

theorem W4_v5 (c : Dev nD) : W4 m ρ c (Proc.devRef .tc main_v5)
    = shapeCast S4x384x56 (W3 m ρ c (Proc.devRef .tc main_v1_2)) shapeCasts_S1536x56_S4x384x56 := by
  unfold W4 hostOps2
  after_results_simp
  rfl

theorem W4_v6 (c : Dev nD) : W4 m ρ c (Proc.devRef .tc main_v6)
    = shapeCast S4x384x56 (W3 m ρ c (Proc.devRef .tc main_v1_3)) shapeCasts_S1536x56_S4x384x56 := by
  unfold W4 hostOps2
  after_results_simp
  rfl

/-! ### The kernels' arrays -/

theorem W2_v1_0 (c : Dev nD) : W2 m ρ c (Proc.devRef .tc main_v1_0) = actDeq (V1 m ρ) c :=
  (W2_arr m ρ c 1).trans (arr0_1 (V1 m ρ) c)
theorem W2_v1_1 (c : Dev nD) : W2 m ρ c (Proc.devRef .tc main_v1_1) = actPack (V1 m ρ) c :=
  (W2_arr m ρ c 2).trans (arr0_2 (V1 m ρ) c)
theorem W2_v1_2 (c : Dev nD) : W2 m ρ c (Proc.devRef .tc main_v1_2) = actSc (V1 m ρ) c :=
  (W2_arr m ρ c 3).trans (arr0_3 (V1 m ρ) c)
theorem W2_v1_3 (c : Dev nD) : W2 m ρ c (Proc.devRef .tc main_v1_3) = actZp (V1 m ρ) c :=
  (W2_arr m ρ c 4).trans (arr0_4 (V1 m ρ) c)

theorem W3_v1_1 (c : Dev nD) : W3 m ρ c (Proc.devRef .tc main_v1_1) = actPack (V1 m ρ) c :=
  (W3_of_ne m ρ c main_v1_1 (by decide)).trans (W2_v1_1 m ρ c)
theorem W3_v1_2 (c : Dev nD) : W3 m ρ c (Proc.devRef .tc main_v1_2) = actSc (V1 m ρ) c :=
  (W3_of_ne m ρ c main_v1_2 (by decide)).trans (W2_v1_2 m ρ c)
theorem W3_v1_3 (c : Dev nD) : W3 m ρ c (Proc.devRef .tc main_v1_3) = actZp (V1 m ρ) c :=
  (W3_of_ne m ρ c main_v1_3 (by decide)).trans (W2_v1_3 m ρ c)

theorem W3_v2 (c : Dev nD) : W3 m ρ c (Proc.devRef .tc main_v2) =
    fun y : S1536x18432.Idx => mm (actDeq (V1 m ρ) c) (m ((c : Thread nD τ).loc main_arg1)) (m ((c : Thread nD τ).loc main_arg2))
      (m ((c : Thread nD τ).loc main_arg3)) (y 0) (y 1) := by
  refine (W3_arr m ρ c 4).trans ((arr1_4 (V2 m ρ) c).trans ?_)
  have h0 : V2 m ρ c main_v1_0 = actDeq (V1 m ρ) c := W2_v1_0 m ρ c
  have h1 : V2 m ρ c main_arg1 = m ((c : Thread nD τ).loc main_arg1) := W2_args m ρ c main_arg1 (by decide)
  have h2 : V2 m ρ c main_arg2 = m ((c : Thread nD τ).loc main_arg2) := W2_args m ρ c main_arg2 (by decide)
  have h3 : V2 m ρ c main_arg3 = m ((c : Thread nD τ).loc main_arg3) := W2_args m ρ c main_arg3 (by decide)
  rw [h0, h1, h2, h3]

/-- A row the first kernel reads is a row of the first argument. -/
theorem actRow_eq (c : Dev nD) (b : Fin 4) (s : Fin 384) :
    actRow (V1 m ρ) c ⟨384 * b.val + s.val, by omega⟩ = fun k : Fin 7168 => m ((c : Thread nD τ).loc main_arg0) (ix3 b s k) := by
  funext k
  refine (congrFun (W1_v0 m ρ c) _).trans ?_
  exact join_apply _ _ b s k

/-! ### The results -/

theorem result3 (c : Dev nD) (b : Fin 4) (s : Fin 384) (n : Fin 18432) :
    W4 m ρ c (Proc.devRef .tc main_v3) (ix3 b s n : S4x384x18432.Idx) =
      ∑ k : Fin 7168, rowDeq (fun k => m ((c : Thread nD τ).loc main_arg0) (ix3 b s k)) k
        * wdeq (fun q => m ((c : Thread nD τ).loc main_arg1) (ix2 q n)) (fun g => m ((c : Thread nD τ).loc main_arg2) (ix2 g n))
            (fun g => m ((c : Thread nD τ).loc main_arg3) (ix2 g n)) k := by
  rw [W4_v3, W3_v2]
  refine (split_apply _ _ b s n).trans ?_
  show mm _ _ _ _ (⟨384 * b.val + s.val, _⟩ : Fin 1536) n = _
  unfold mm
  simp only [actDeq_at, actRow_eq]

theorem result4 (c : Dev nD) (b : Fin 4) (s : Fin 384) (k : Fin 3584) :
    W4 m ρ c (Proc.devRef .tc main_v4) (ix3 b s k : S4x384x3584.Idx) =
      rowPack (fun k => m ((c : Thread nD τ).loc main_arg0) (ix3 b s k)) k := by
  rw [W4_v4, W3_v1_1]
  refine (split_apply _ _ b s k).trans ?_
  rw [actPack_at, actRow_eq]

theorem result5 (c : Dev nD) (b : Fin 4) (s : Fin 384) (g : Fin 56) :
    W4 m ρ c (Proc.devRef .tc main_v5) (ix3 b s g : S4x384x56.Idx) =
      rowSc (fun k => m ((c : Thread nD τ).loc main_arg0) (ix3 b s k)) g := by
  rw [W4_v5, W3_v1_2]
  refine (split_apply _ _ b s g).trans ?_
  rw [actSc_at, actRow_eq]

theorem result6 (c : Dev nD) (b : Fin 4) (s : Fin 384) (g : Fin 56) :
    W4 m ρ c (Proc.devRef .tc main_v6) (ix3 b s g : S4x384x56.Idx) =
      rowZp (fun k => m ((c : Thread nD τ).loc main_arg0) (ix3 b s k)) g := by
  rw [W4_v6, W3_v1_3]
  refine (split_apply _ _ b s g).trans ?_
  rw [actZp_at, actRow_eq]

end Cert.KernelIdeal.Gen
end
-- ==== Proof.RefQuant.lean ====
/- The reference's quantiser read at an index: scales, zero points, codes and packed codes of each row are
   those of the quantiser of Scalars.lean on that row. -/
module

public import proofs.«01_k».proof.Proof.Gen.ReferenceIdeal.Read
public import proofs.«01_k».proof.Proof.Scalars
public import Idealize.ShloMosaic.Lib.Pointwise

@[expose] public section
noncomputable section
namespace Cert.ReferenceIdeal.Read
open Cert.ReferenceIdeal Cert.ReferenceIdeal.Gen
open Idealize.ShloMosaic Idealize.ShloMosaic.TcCoe
open Cert.Quant

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]
theorem zero_f32 : Ideal.ofBits .f32 0x00000000#32 = 0 := by simp [Ideal.ofBits, Ideal.ieee]
theorem one_f32 : Ideal.ofBits .f32 0x3F800000#32 = 1 := by
  rw [← EReal.coe_one]
  simp [Ideal.ofBits, Ideal.ieee, -EReal.coe_mul, -EReal.coe_one]
  norm_num
theorem fifteen_f32 : Ideal.ofBits .f32 0x41700000#32 = ((15 : ℝ) : EReal) := by
  simp [Ideal.ofBits, Ideal.ieee, -EReal.coe_mul]; norm_num

variable (x0 : (⟨S4x384x7168, .bf16⟩ : BufTy).Contents (Elt Ideal))

/-- The activations at batch `b`, position `s`. -/
def xrow (b : Fin 4) (s : Fin 384) : Fin 7168 → EReal := fun k => x0 (ix3 b s k)

theorem v1_at (b : Fin 4) (s : Fin 384) (g : Fin 56) (k : Fin 128) :
    val_main_v1 (F := Ideal) x0 (ix4 b s g k) = grp (xrow x0 b s) g k := by
  rw [val_main_v1_apply, val_main_v0_apply]
  refine congrArg x0 (funext fun a => ?_)
  have hb := b.isLt; have hs := s.isLt; have hg := g.isLt; have hk := k.isLt
  match a with
  | ⟨0, _⟩ => exact Fin.ext (show (((b.val * 384 + s.val) * 56 + g.val) * 128 + k.val) / 2752512 = b.val by omega)
  | ⟨1, _⟩ => exact Fin.ext (show (((b.val * 384 + s.val) * 56 + g.val) * 128 + k.val) / 7168 % 384 = s.val by omega)
  | ⟨2, _⟩ => exact Fin.ext (show (((b.val * 384 + s.val) * 56 + g.val) * 128 + k.val) % 7168 = 128 * g.val + k.val by omega)

/-- The smallest element of a group. -/
theorem v2_at (b : Fin 4) (s : Fin 384) (g : Fin 56) :
    val_main_v2 (F := Ideal) x0 (ix3 b s g) = Finset.univ.fold min ⊤ (grp (xrow x0 b s) g) := by
  unfold val_main_v2
  refine (Host.reduce_eq_fold _ _ _ _ _ _).trans ?_
  refine (Shape.ReducesTo.fold_fiber_r4_a3 _ _ _ _ _).trans ?_
  rw [val_main_cst_apply, Ideal.ofBits_def, top_f32]
  exact congrArg (Finset.univ.fold min (⊤ : EReal)) (funext fun k => v1_at x0 b s g k)

/-- The largest element of a group. -/
theorem v5_at (b : Fin 4) (s : Fin 384) (g : Fin 56) :
    val_main_v5 (F := Ideal) x0 (ix3 b s g) = Finset.univ.fold max ⊥ (grp (xrow x0 b s) g) := by
  unfold val_main_v5
  refine (Host.reduce_eq_fold _ _ _ _ _ _).trans ?_
  refine (Shape.ReducesTo.fold_fiber_r4_a3 _ _ _ _ _).trans ?_
  rw [val_main_cst_1_apply, Ideal.ofBits_def, bot_f32]
  exact congrArg (Finset.univ.fold max (⊥ : EReal)) (funext fun k => v1_at x0 b s g k)

theorem v4_at (b : Fin 4) (s : Fin 384) (g : Fin 56) :
    val_main_v4 (F := Ideal) x0 (ix3 b s g) = lo (grp (xrow x0 b s) g) := by
  rw [val_main_v4_apply, val_main_v3_apply, val_main_cst_0_apply, v2_at, Ideal.ofBits_def, zero_f32]
  rfl

theorem v7_at (b : Fin 4) (s : Fin 384) (g : Fin 56) :
    val_main_v7 (F := Ideal) x0 (ix3 b s g) = hi (grp (xrow x0 b s) g) := by
  rw [val_main_v7_apply, val_main_v6_apply, val_main_cst_2_apply, v5_at, Ideal.ofBits_def, zero_f32]
  rfl

/-- The scale as the operations spell it. -/
theorem sc_ops (h l : EReal) :
    Scalar.select (FloatOps.cmpf (F := Ideal) (φ := .f32) .oeq h l) (1 : EReal)
        (FloatOps.hostDivf (F := Ideal) (φ := .f32) (FloatOps.subf (F := Ideal) (φ := .f32) h l) ((15 : ℝ) : EReal)) =
      if h = l then 1 else Ideal.div (h - l) ((15 : ℝ) : EReal) := by
  pointwise

theorem v12_at (b : Fin 4) (s : Fin 384) (g : Fin 56) :
    val_main_v12 (F := Ideal) x0 (ix3 b s g) = sc (grp (xrow x0 b s) g) := by
  rw [val_main_v12_apply, val_main_v11_apply, val_main_v10_apply, val_main_v9_apply, val_main_v8_apply,
    val_main_cst_3_apply, val_main_call0_v1_apply, val_main_call0_v0_apply, val_main_cst_4_apply, v7_at, v4_at,
    Ideal.ofBits_def, Ideal.ofBits_def, fifteen_f32, one_f32]
  exact sc_ops _ _

theorem v15_at (b : Fin 4) (s : Fin 384) (g : Fin 56) :
    val_main_v15 (F := Ideal) x0 (ix3 b s g) = zp (grp (xrow x0 b s) g) := by
  rw [val_main_v15_apply, val_main_v14_apply, val_main_v13_apply, v12_at, v4_at]
  rfl

/-- A scale repeated over its group. -/
theorem v17_at (b : Fin 4) (s : Fin 384) (g : Fin 56) (k : Fin 128) :
    val_main_v17 (F := Ideal) x0 (ix4 b s g k) = sc (grp (xrow x0 b s) g) := by
  have he : idx_main_v16 (idx_main_v17 (ix4 b s g k)) = ix3 b s g := by
    funext a
    match a with
    | ⟨0, _⟩ => rfl
    | ⟨1, _⟩ => rfl
    | ⟨2, _⟩ => rfl
  rw [val_main_v17_apply, val_main_v16_apply, he, v12_at]

/-- A zero point repeated over its group. -/
theorem v21_at (b : Fin 4) (s : Fin 384) (g : Fin 56) (k : Fin 128) :
    val_main_v21 (F := Ideal) x0 (ix4 b s g k) = zp (grp (xrow x0 b s) g) := by
  have he : idx_main_v20 (idx_main_v21 (ix4 b s g k)) = ix3 b s g := by
    funext a
    match a with
    | ⟨0, _⟩ => rfl
    | ⟨1, _⟩ => rfl
    | ⟨2, _⟩ => rfl
  rw [val_main_v21_apply, val_main_v20_apply, he, v15_at]

theorem v23_at (b : Fin 4) (s : Fin 384) (g : Fin 56) (k : Fin 128) :
    val_main_v23 (F := Ideal) x0 (ix4 b s g k) = cd (grp (xrow x0 b s) g) k := by
  rw [val_main_v23_apply, val_main_call3_v4_apply, val_main_call3_v3_apply, val_main_cst_6_apply, val_main_call3_v2_apply,
    val_main_call3_v1_apply, val_main_call3_v0_apply, val_main_cst_5_apply, val_main_v22_apply, val_main_v19_apply,
    val_main_v18_apply, v21_at, v17_at, v1_at, Ideal.ofBits_def, Ideal.ofBits_def, fifteen_f32, zero_f32]
  rfl

/-- The code at an index, as a byte. -/
theorem v28_0_at (b : Fin 4) (s : Fin 384) (g : Fin 56) (k : Fin 128) :
    val_main_v28_0 (F := Ideal) x0 (ix4 b s g k) = (Ideal.fptosi 32 (cd (grp (xrow x0 b s) g) k)).setWidth 8 := by
  rw [val_main_v28_0_apply, val_main_v25_apply, val_main_v24_apply, v23_at]
  rfl

/-- The scales. -/
theorem v28_1_at (b : Fin 4) (s : Fin 384) (g : Fin 56) :
    val_main_v28_1 (F := Ideal) x0 (ix3 b s g) = rowSc (xrow x0 b s) g := by
  rw [val_main_v28_1_apply, v12_at]
  rfl

/-- The zero points. -/
theorem v28_2_at (b : Fin 4) (s : Fin 384) (g : Fin 56) :
    val_main_v28_2 (F := Ideal) x0 (ix3 b s g) = rowZp (xrow x0 b s) g := by
  rw [val_main_v28_2_apply, val_main_v27_apply, val_main_v26_apply, v15_at]
  rfl

/-- The code at position `k` of a row, as a byte. -/
theorem v29_at (b : Fin 4) (s : Fin 384) (k : Fin 7168) :
    val_main_v29 (F := Ideal) x0 (ix3 b s k) = (BitVec.ofNat 32 (rowCd (xrow x0 b s) k)).setWidth 8 := by
  rw [val_main_v29_apply]
  have he : idx_main_v29 (ix3 b s k) = ix4 b s (gOf k) (kOf k) := by
    have hb := b.isLt; have hs := s.isLt; have hk := k.isLt
    funext a
    match a with
    | ⟨0, _⟩ => exact Fin.ext (show ((b.val * 384 + s.val) * 7168 + k.val) / 2752512 = b.val by omega)
    | ⟨1, _⟩ => exact Fin.ext (show ((b.val * 384 + s.val) * 7168 + k.val) / 7168 % 384 = s.val by omega)
    | ⟨2, _⟩ => exact Fin.ext (show ((b.val * 384 + s.val) * 7168 + k.val) / 128 % 56 = k.val / 128 by omega)
    | ⟨3, _⟩ => exact Fin.ext (show ((b.val * 384 + s.val) * 7168 + k.val) % 128 = k.val % 128 by omega)
  rw [he, v28_0_at, cd_eq, fptosi_nat (by have := cdN_le (grp (xrow x0 b s) (gOf k)) (kOf k); omega)]
  rfl

end Cert.ReferenceIdeal.Read
end
-- ==== Proof.RefPack.lean ====
/- The reference's packed codes read at an index: two codes of a row to a byte. -/
module

public import proofs.«01_k».proof.Proof.RefQuant

@[expose] public section
noncomputable section
namespace Cert.ReferenceIdeal.Read
open Cert.ReferenceIdeal Cert.ReferenceIdeal.Gen
open Idealize.ShloMosaic Idealize.ShloMosaic.TcCoe
open Cert.Quant

variable (x0 : (⟨S4x384x7168, .bf16⟩ : BufTy).Contents (Elt Ideal))

/-- Two codes in one byte, in the operations of the host. -/
theorem pack_host {n m : ℕ} (hn : n ≤ 15) (hm : m ≤ 15) :
    (IntOp.ori (((BitVec.ofNat 32 n).setWidth 8).setWidth 32)
      (IntOp.shli .host (((BitVec.ofNat 32 m).setWidth 8).setWidth 32) 4#32)).setWidth 8
      = (BitVec.ofNat 32 (n + 16 * m)).setWidth 8 := by
  have : ∀ n m : Fin 16, (IntOp.ori (((BitVec.ofNat 32 n).setWidth 8).setWidth 32)
      (IntOp.shli .host (((BitVec.ofNat 32 m).setWidth 8).setWidth 32) 4#32)).setWidth 8
      = (BitVec.ofNat 32 (n + 16 * m)).setWidth 8 := by decide +kernel
  exact this ⟨n, by omega⟩ ⟨m, by omega⟩

/-- The codes at even positions. -/
theorem v31_at (b : Fin 4) (s : Fin 384) (c : Fin 3584) :
    val_main_v31 (F := Ideal) x0 (ix3 b s c) =
      ((BitVec.ofNat 32 (rowCd (xrow x0 b s) ⟨2 * c.val, by omega⟩)).setWidth 8).setWidth 32 := by
  unfold val_main_v31
  refine (congrArg (val_main_v30 (F := Ideal) x0) (?_ : _ = ix3 b s (⟨2 * c.val, by omega⟩ : Fin 7168))).trans ?_
  · funext a
    match a with
    | ⟨0, _⟩ => exact Fin.ext (show 0 + 1 * b.val = b.val by omega)
    | ⟨1, _⟩ => exact Fin.ext (show 0 + 1 * s.val = s.val by omega)
    | ⟨2, _⟩ => exact Fin.ext (show 0 + 2 * c.val = 2 * c.val by omega)
  rw [val_main_v30_apply, v29_at]

/-- The codes at odd positions. -/
theorem v32_at (b : Fin 4) (s : Fin 384) (c : Fin 3584) :
    val_main_v32 (F := Ideal) x0 (ix3 b s c) =
      ((BitVec.ofNat 32 (rowCd (xrow x0 b s) ⟨2 * c.val + 1, by omega⟩)).setWidth 8).setWidth 32 := by
  unfold val_main_v32
  refine (congrArg (val_main_v30 (F := Ideal) x0) (?_ : _ = ix3 b s (⟨2 * c.val + 1, by omega⟩ : Fin 7168))).trans ?_
  · funext a
    match a with
    | ⟨0, _⟩ => exact Fin.ext (show 0 + 1 * b.val = b.val by omega)
    | ⟨1, _⟩ => exact Fin.ext (show 0 + 1 * s.val = s.val by omega)
    | ⟨2, _⟩ => exact Fin.ext (show 1 + 2 * c.val = 2 * c.val + 1 by omega)
  rw [val_main_v30_apply, v29_at]

/-- The packed codes. -/
theorem v36_at (b : Fin 4) (s : Fin 384) (c : Fin 3584) :
    val_main_v36 (F := Ideal) x0 (ix3 b s c) = rowPack (xrow x0 b s) c := by
  rw [val_main_v36_apply, val_main_v35_apply, val_main_v34_apply, val_main_v33_apply, val_main_c_apply, v31_at, v32_at]
  unfold rowPack
  refine pack_host ?_ ?_
  · unfold rowCd; exact cdN_le _ _
  · unfold rowCd; exact cdN_le _ _

end Cert.ReferenceIdeal.Read
end
-- ==== Proof.RefMatmul.lean ====
/- The reference's product read at an index: a row of the quantised activations against a column of the
   dequantised weights, summed over the 7168 positions. -/
module

public import proofs.«01_k».proof.Proof.RefQuant

@[expose] public section
noncomputable section
namespace Cert.ReferenceIdeal.Read
open Cert.ReferenceIdeal Cert.ReferenceIdeal.Gen
open Idealize.ShloMosaic Idealize.ShloMosaic.TcCoe
open Cert.Quant

variable (x0 : (⟨S4x384x7168, .bf16⟩ : BufTy).Contents (Elt Ideal)) (x1 : (⟨S3584x18432, .i8⟩ : BufTy).Contents (Elt Ideal))
  (x2 : (⟨S56x18432, .f32⟩ : BufTy).Contents (Elt Ideal)) (x3 : (⟨S56x18432, .i8⟩ : BufTy).Contents (Elt Ideal))

/-- The activations quantised and scaled back. -/
theorem v46_at (b : Fin 4) (s : Fin 384) (g : Fin 56) (k : Fin 128) :
    val_main_v46 (F := Ideal) x0 (ix4 b s g k) = deq (grp (xrow x0 b s) g) k := by
  have h40 : idx_main_v39 (idx_main_v40 (ix4 b s g k)) = ix3 b s g := by
    funext a
    match a with
    | ⟨0, _⟩ => rfl
    | ⟨1, _⟩ => rfl
    | ⟨2, _⟩ => rfl
  have h45 : idx_main_v44 (idx_main_v45 (ix4 b s g k)) = ix3 b s g := by
    funext a
    match a with
    | ⟨0, _⟩ => rfl
    | ⟨1, _⟩ => rfl
    | ⟨2, _⟩ => rfl
  rw [val_main_v46_apply, val_main_v45_apply, val_main_v44_apply, h45, val_main_v43_apply, val_main_v42_apply,
    val_main_v41_apply, val_main_v40_apply, val_main_v39_apply, h40, val_main_v38_apply, val_main_v37_apply,
    v28_0_at, v28_1_at, v28_2_at]
  unfold deq
  rw [← code_sub]
  rfl

/-- The same, even and odd positions of each row apart. -/
theorem v48_at (r : Fin 1536) (q : Fin 3584) (j : Fin 2) :
    val_main_v48 (F := Ideal) x0 (ix3 j r q) =
      rowDeq (xrow x0 ⟨r.val / 384, by omega⟩ ⟨r.val % 384, by omega⟩) ⟨2 * q.val + j.val, by omega⟩ := by
  rw [val_main_v48_apply, val_main_v47_apply]
  have he : idx_main_v47 (idx_main_v48 (ix3 j r q)) = ix4 (⟨r.val / 384, by omega⟩ : Fin 4) (⟨r.val % 384, by omega⟩ : Fin 384)
      (gOf ⟨2 * q.val + j.val, by omega⟩) (kOf ⟨2 * q.val + j.val, by omega⟩) := by
    have hr := r.isLt; have hq := q.isLt; have hj := j.isLt
    funext a
    match a with
    | ⟨0, _⟩ => exact Fin.ext (show ((r.val * 3584 + q.val) * 2 + j.val) / 2752512 = r.val / 384 by omega)
    | ⟨1, _⟩ => exact Fin.ext (show ((r.val * 3584 + q.val) * 2 + j.val) / 7168 % 384 = r.val % 384 by omega)
    | ⟨2, _⟩ => exact Fin.ext (show ((r.val * 3584 + q.val) * 2 + j.val) / 128 % 56 = (2 * q.val + j.val) / 128 by omega)
    | ⟨3, _⟩ => exact Fin.ext (show ((r.val * 3584 + q.val) * 2 + j.val) % 128 = (2 * q.val + j.val) % 128 by omega)
  rw [he, v46_at]
  rfl

/-- The reference's way to a byte's 4-bit number at place `j`. -/
theorem nib_host (b : BitVec 8) (j : Fin 2) :
    (IntOp.andi (IntOp.shrsi .host (b.setWidth 32) (IntOp.muli 4#32 (BitVec.ofNat 32 j.val))) 15#32).toInt = (nib b j.val : ℤ) := by
  have : ∀ (b : BitVec 8) (j : Fin 2),
    (IntOp.andi (IntOp.shrsi .host (b.setWidth 32) (IntOp.muli 4#32 (BitVec.ofNat 32 j.val))) 15#32).toInt = (nib b j.val : ℤ) := by
    decide +kernel
  exact this b j

theorem v53_at (g : Fin 56) (q : Fin 64) (n : Fin 18432) :
    val_main_v53 (F := Ideal) x1 (ix3 g q n) = (x1 (ix2 ⟨64 * g.val + q.val, by omega⟩ n)).setWidth 32 := by
  rw [val_main_v53_apply, val_main_v52_apply]
  refine congrArg (fun i => (x1 i).setWidth 32) (funext fun a => ?_)
  have hg := g.isLt; have hq := q.isLt; have hn := n.isLt
  match a with
  | ⟨0, _⟩ => exact Fin.ext (show ((g.val * 64 + q.val) * 18432 + n.val) / 18432 = 64 * g.val + q.val by omega)
  | ⟨1, _⟩ => exact Fin.ext (show ((g.val * 64 + q.val) * 18432 + n.val) % 18432 = n.val by omega)

/-- The weights dequantised. -/
theorem v69_at (j : Fin 2) (g : Fin 56) (q : Fin 64) (n : Fin 18432) :
    val_main_v69 (F := Ideal) x1 x2 x3 (ix4 j g q n) =
      (((nib (x1 (ix2 ⟨64 * g.val + q.val, by omega⟩ n)) j.val : ℝ) : EReal) - (((x3 (ix2 g n)).toNat : ℝ) : EReal)) * x2 (ix2 g n) := by
  have h55 : idx_main_v54 (idx_main_v55 (ix4 j g q n)) = ix3 g q n := by
    funext a
    match a with
    | ⟨0, _⟩ => rfl
    | ⟨1, _⟩ => rfl
    | ⟨2, _⟩ => rfl
  have h66 : idx_main_v63 (idx_main_v66 (ix4 j g q n)) = ix2 g n := by
    funext a
    match a with
    | ⟨0, _⟩ => rfl
    | ⟨1, _⟩ => rfl
  have h68 : idx_main_v65 (idx_main_v68 (ix4 j g q n)) = ix2 g n := by
    funext a
    match a with
    | ⟨0, _⟩ => rfl
    | ⟨1, _⟩ => rfl
  rw [val_main_v69_apply, val_main_v68_apply, val_main_v65_apply, h68, val_main_v64_apply, val_main_v67_apply,
    val_main_v66_apply, val_main_v63_apply, h66, val_main_v62_apply, val_main_v61_apply, val_main_v60_apply,
    val_main_v59_apply, val_main_v58_apply, val_main_c_8_apply, val_main_v57_apply, val_main_v56_apply,
    val_main_v55_apply, val_main_v54_apply, h55, v53_at, val_main_v51_apply, val_main_v50_apply, val_main_c_7_apply,
    val_main_v49_apply]
  have e1 := congrArg (fun i : ℤ => ((i : ℝ) : EReal)) (nib_host (x1 (ix2 ⟨64 * g.val + q.val, by omega⟩ n)) j)
  have e2 := congrArg (fun i : ℤ => ((i : ℝ) : EReal)) (byte_toInt (x3 (ix2 g n)))
  simp only [Int.cast_natCast] at e1 e2
  rw [← e1, ← e2]
  rfl

/-- The same, even and odd rows apart. -/
theorem v70_at (j : Fin 2) (q : Fin 3584) (n : Fin 18432) :
    val_main_v70 (F := Ideal) x1 x2 x3 (ix3 j q n) =
      wdeq (fun q => x1 (ix2 q n)) (fun g => x2 (ix2 g n)) (fun g => x3 (ix2 g n)) ⟨2 * q.val + j.val, by omega⟩ := by
  rw [val_main_v70_apply]
  have he : idx_main_v70 (ix3 j q n) = ix4 j (⟨q.val / 64, by omega⟩ : Fin 56) (⟨q.val % 64, by omega⟩ : Fin 64) n := by
    have hn := n.isLt; have hq := q.isLt; have hj := j.isLt
    funext a
    match a with
    | ⟨0, _⟩ => exact Fin.ext (show ((j.val * 3584 + q.val) * 18432 + n.val) / 66060288 = j.val by omega)
    | ⟨1, _⟩ => exact Fin.ext (show ((j.val * 3584 + q.val) * 18432 + n.val) / 1179648 % 56 = q.val / 64 by omega)
    | ⟨2, _⟩ => exact Fin.ext (show ((j.val * 3584 + q.val) * 18432 + n.val) / 18432 % 64 = q.val % 64 by omega)
    | ⟨3, _⟩ => exact Fin.ext (show ((j.val * 3584 + q.val) * 18432 + n.val) % 18432 = n.val by omega)
  rw [he, v69_at]
  unfold wdeq
  have hj := j.isLt; have hq := q.isLt
  have e1 : (⟨64 * (q.val / 64) + q.val % 64, by omega⟩ : Fin 3584) = ⟨(2 * q.val + j.val) / 2, by omega⟩ := Fin.ext (by simp only; omega)
  have e2 : (⟨q.val / 64, by omega⟩ : Fin 56) = gOf ⟨2 * q.val + j.val, by omega⟩ := Fin.ext (show q.val / 64 = (2 * q.val + j.val) / 128 by omega)
  have e3 : j.val = (2 * q.val + j.val) % 2 := by omega
  simp only [e1, e2, ← e3]

/-- A sum over 7168 positions, even and odd positions apart. -/
theorem sum_pairs (f : Fin 7168 → EReal) :
    ∑ k : Fin 7168, f k = ∑ j : Fin 2, ∑ q : Fin 3584, f ⟨2 * q.val + j.val, by omega⟩ := by
  rw [Finset.sum_comm, ← Fintype.sum_prod_type', ← (finProdFinEquiv (m := 3584) (n := 2)).sum_comp]
  refine Finset.sum_congr rfl fun p _ => congrArg f (Fin.ext ?_)
  show p.2.val + 2 * p.1.val = 2 * p.1.val + p.2.val
  omega

/-- The product at row `r`, column `n`. -/
theorem v71_at (r : Fin 1536) (n : Fin 18432) :
    val_main_v71 (F := Ideal) x0 x1 x2 x3 (ix2 r n) =
      ∑ k : Fin 7168, rowDeq (xrow x0 ⟨r.val / 384, by omega⟩ ⟨r.val % 384, by omega⟩) k
        * wdeq (fun q => x1 (ix2 q n)) (fun g => x2 (ix2 g n)) (fun g => x3 (ix2 g n)) k := by
  rw [sum_pairs]
  unfold val_main_v71
  pointwise
  simp only [v48_at, v70_at]

/-- The product in the shape of the result: row `384 b + s` of it. -/
theorem v73_at (b : Fin 4) (s : Fin 384) (n : Fin 18432) :
    val_main_v73 (F := Ideal) x0 x1 x2 x3 (ix3 b s n) =
      ∑ k : Fin 7168, rowDeq (xrow x0 b s) k
        * wdeq (fun q => x1 (ix2 q n)) (fun g => x2 (ix2 g n)) (fun g => x3 (ix2 g n)) k := by
  have hb := b.isLt; have hs := s.isLt; have hn := n.isLt
  have he : idx_main_v73 (ix3 b s n) = ix2 (⟨384 * b.val + s.val, by omega⟩ : Fin 1536) n := by
    funext a
    match a with
    | ⟨0, _⟩ => exact Fin.ext (show ((b.val * 384 + s.val) * 18432 + n.val) / 18432 = 384 * b.val + s.val by omega)
    | ⟨1, _⟩ => exact Fin.ext (show ((b.val * 384 + s.val) * 18432 + n.val) % 18432 = n.val by omega)
  rw [val_main_v73_apply, he, val_main_v72_apply]
  refine (v71_at x0 x1 x2 x3 _ n).trans ?_
  have e1 : (⟨(384 * b.val + s.val) / 384, by omega⟩ : Fin 4) = b := Fin.ext (show (384 * b.val + s.val) / 384 = b.val by omega)
  have e2 : (⟨(384 * b.val + s.val) % 384, by omega⟩ : Fin 384) = s := Fin.ext (show (384 * b.val + s.val) % 384 = s.val by omega)
  simp only [e1, e2]

end Cert.ReferenceIdeal.Read
end
-- ==== Proof.Equation.lean ====
/- The kernel's results are the reference's, as functions of the arguments. -/
module

public import proofs.«01_k».proof.Proof.KernelResults
public import proofs.«01_k».proof.Proof.RefPack
public import proofs.«01_k».proof.Proof.RefMatmul

@[expose] public section
noncomputable section
namespace Cert.KernelIdeal.Gen
open Idealize.ShloMosaic Idealize.ShloMosaic.TcCoe
open Cert.ReferenceIdeal.Read (val_main_v73 val_main_v36 val_main_v28_1 val_main_v28_2)

variable (m : (ℓ : Loc nD τ sig) → Buf (Elt Ideal) ℓ) (ρ : Dev nD → PrngReg)

theorem result3_eq (c : Dev nD) : W4 m ρ c (Proc.devRef .tc main_v3) =
    val_main_v73 (F := Ideal) (m ((c : Thread nD τ).loc main_arg0)) (m ((c : Thread nD τ).loc main_arg1))
      (m ((c : Thread nD τ).loc main_arg2)) (m ((c : Thread nD τ).loc main_arg3)) := by
  funext (i : S4x384x18432.Idx)
  obtain ⟨b, s, n, rfl⟩ : ∃ (b : Fin 4) (s : Fin 384) (n : Fin 18432), i = ix3 b s n := ⟨_, _, _, eq_ix3 (n0 := 4) (n1 := 384) (n2 := 18432) i⟩
  exact (result3 m ρ c b s n).trans (Cert.ReferenceIdeal.Read.v73_at _ _ _ _ b s n).symm

theorem result4_eq (c : Dev nD) : W4 m ρ c (Proc.devRef .tc main_v4) =
    val_main_v36 (F := Ideal) (m ((c : Thread nD τ).loc main_arg0)) := by
  funext (i : S4x384x3584.Idx)
  obtain ⟨b, s, n, rfl⟩ : ∃ (b : Fin 4) (s : Fin 384) (n : Fin 3584), i = ix3 b s n := ⟨_, _, _, eq_ix3 (n0 := 4) (n1 := 384) (n2 := 3584) i⟩
  exact (result4 m ρ c b s n).trans (Cert.ReferenceIdeal.Read.v36_at _ b s n).symm

theorem result5_eq (c : Dev nD) : W4 m ρ c (Proc.devRef .tc main_v5) =
    val_main_v28_1 (F := Ideal) (m ((c : Thread nD τ).loc main_arg0)) := by
  funext (i : S4x384x56.Idx)
  obtain ⟨b, s, n, rfl⟩ : ∃ (b : Fin 4) (s : Fin 384) (n : Fin 56), i = ix3 b s n := ⟨_, _, _, eq_ix3 (n0 := 4) (n1 := 384) (n2 := 56) i⟩
  exact (result5 m ρ c b s n).trans (Cert.ReferenceIdeal.Read.v28_1_at _ b s n).symm

theorem result6_eq (c : Dev nD) : W4 m ρ c (Proc.devRef .tc main_v6) =
    val_main_v28_2 (F := Ideal) (m ((c : Thread nD τ).loc main_arg0)) := by
  funext (i : S4x384x56.Idx)
  obtain ⟨b, s, n, rfl⟩ : ∃ (b : Fin 4) (s : Fin 384) (n : Fin 56), i = ix3 b s n := ⟨_, _, _, eq_ix3 (n0 := 4) (n1 := 384) (n2 := 56) i⟩
  exact (result6 m ρ c b s n).trans (Cert.ReferenceIdeal.Read.v28_2_at _ b s n).symm

end Cert.KernelIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.ReferenceFrame
public import proofs.«01_k».proof.Proof.Equation

@[expose] public section

noncomputable section

namespace Cert.Proof

open Idealize.ShloMosaic Idealize.SL.Sem Cert.Kernel

/-- The idealized kernel and reference end with the same four results. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => Cert.KernelIdeal.Gen.W4 m g c (Proc.devRef .tc Cert.KernelIdeal.main_v3),
    fun c => Cert.KernelIdeal.Gen.W4 m g c (Proc.devRef .tc Cert.KernelIdeal.main_v4),
    fun c => Cert.KernelIdeal.Gen.W4 m g c (Proc.devRef .tc Cert.KernelIdeal.main_v5),
    fun c => Cert.KernelIdeal.Gen.W4 m g c (Proc.devRef .tc Cert.KernelIdeal.main_v6),
    Cert.KernelIdeal.Gen.run_values m g, ?_⟩
  refine (θ_run Cert.ReferenceIdeal.defs _ _).mono (fun r h c => ?_) (Cert.ReferenceIdeal.Value.run m' g')
  obtain ⟨h0, h1, h2, h3, hrest⟩ := h c
  obtain ⟨a0, a1, a2, a3⟩ := hargs c
  refine ⟨h0.trans ?_, h1.trans ?_, h2.trans ?_, h3.trans ?_, hrest⟩
  · rw [Cert.ReferenceIdeal.Read.val_main_v73_eq, a0, a1, a2, a3]
    exact (Cert.KernelIdeal.Gen.result3_eq m g c).symm
  · rw [Cert.ReferenceIdeal.Read.val_main_v36_eq, a0]
    exact (Cert.KernelIdeal.Gen.result4_eq m g c).symm
  · refine (Cert.ReferenceIdeal.Read.val_main_v28_1_eq _).trans ?_
    rw [a0]
    exact (Cert.KernelIdeal.Gen.result5_eq m g c).symm
  · refine (Cert.ReferenceIdeal.Read.val_main_v28_2_eq _).trans ?_
    rw [a0]
    exact (Cert.KernelIdeal.Gen.result6_eq m g c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Value.frame m ρ, trivial, algebraic⟩

end Cert.Proof

end
